-- ==== Defs.lean ====
def Pre_Kernel [hPre_agent_in_range : Cert.Pre_agent_in_range.Facts] (m : (ℓ : Loc Cert.Kernel.nD Cert.Kernel.τ Cert.Kernel.sig) → Buf (Elt Bits) ℓ) : Prop :=
  ∀ c : Dev Cert.Kernel.nD,
    (Cert.Pre_agent_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_agent_in_range : Cert.Pre_agent_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_agent_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_agent_in_range [hPre_agent_in_range : Cert.Pre_agent_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_agent_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_agent_in_range : Cert.Pre_agent_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_agent_in_range : Cert.Pre_agent_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_agent_in_range [hReferenceIdeal : Cert.ReferenceIdeal.Facts] [hPre_agent_in_range : Cert.Pre_agent_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_agent_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_agent_in_range : Cert.Pre_agent_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_agent_in_range : Cert.Pre_agent_in_range.Facts),
    quiescent_Kernel (hKernel := hKernel) (hPre_agent_in_range := hPre_agent_in_range)
    ∧ quiescent_KernelIdeal (hKernelIdeal := hKernelIdeal) (hPre_agent_in_range := hPre_agent_in_range)
    ∧ quiescent_ReferenceIdeal (hReferenceIdeal := hReferenceIdeal)
    ∧ quiescent_ReferenceIdeal_pre_agent_in_range (hReferenceIdeal := hReferenceIdeal) (hPre_agent_in_range := hPre_agent_in_range)
    ∧ preserves_Kernel_KernelIdeal
    ∧ algebraic_KernelIdeal_ReferenceIdeal (hKernelIdeal := hKernelIdeal) (hReferenceIdeal := hReferenceIdeal) (hPre_agent_in_range := hPre_agent_in_range)
-- ==== Pre_agent_in_range.lean ====
abbrev S60x4 : Shape := ⟨2, ![60, 4]⟩
abbrev S10000x110x3 : Shape := ⟨3, ![10000, 110, 3]⟩
abbrev S10000x110 : Shape := ⟨2, ![10000, 110]⟩
abbrev S_ : Shape := ⟨0, ![]⟩
abbrev S220x512 : Shape := ⟨2, ![220, 512]⟩
abbrev S512x720 : Shape := ⟨2, ![512, 720]⟩
abbrev S512x360 : Shape := ⟨2, ![512, 360]⟩
abbrev S3x4096 : Shape := ⟨2, ![3, 4096]⟩
abbrev S4096 : Shape := ⟨1, ![4096]⟩
abbrev S4096x2048 : Shape := ⟨2, ![4096, 2048]⟩
abbrev S2048 : Shape := ⟨1, ![2048]⟩
abbrev S2048x3 : Shape := ⟨2, ![2048, 3]⟩
abbrev S3 : Shape := ⟨1, ![3]⟩

class Facts : Prop where

variable [Facts]

def fn {F : FTy → Type} [FloatOps F] (main_arg0 : FVec F S60x4 .f32) (main_arg1 : FVec F S10000x110x3 .f32) (main_arg2 : FVec F S10000x110x3 .f32) (main_arg3 : FVec F S10000x110 .f32) (main_arg4 : IVec S10000x110 1) (main_arg5 : IVec S_ 32) (main_arg6 : FVec F S220x512 .f32) (main_arg7 : FVec F S512x720 .f32) (main_arg8 : FVec F S512x360 .f32) (main_arg9 : FVec F S3x4096 .f32) (main_arg10 : FVec F S4096 .f32) (main_arg11 : FVec F S4096x2048 .f32) (main_arg12 : FVec F S2048 .f32) (main_arg13 : FVec F S2048x3 .f32) (main_arg14 : FVec F S3 .f32) : IVec S_ 1 :=
  let main_c : IVec S_ 32 := constantI S_ 32 0#32
  let main_v0 : IVec S_ 1 := cmpi .sge main_arg5 main_c
  let main_c_0 : IVec S_ 32 := constantI S_ 32 10000#32
  let main_v1 : IVec S_ 1 := cmpi .slt main_arg5 main_c_0
  let main_v2 : IVec S_ 1 := andi main_v0 main_v1
  main_v2
-- ==== Kernel.lean ====
abbrev S60x4 : Shape := ⟨2, ![60, 4]⟩
abbrev S10000x110x3 : Shape := ⟨3, ![10000, 110, 3]⟩
abbrev S10000x110 : Shape := ⟨2, ![10000, 110]⟩
abbrev S_ : Shape := ⟨0, ![]⟩
abbrev S220x512 : Shape := ⟨2, ![220, 512]⟩
abbrev S512x720 : Shape := ⟨2, ![512, 720]⟩
abbrev S512x360 : Shape := ⟨2, ![512, 360]⟩
abbrev S3x4096 : Shape := ⟨2, ![3, 4096]⟩
abbrev S4096 : Shape := ⟨1, ![4096]⟩
abbrev S4096x2048 : Shape := ⟨2, ![4096, 2048]⟩
abbrev S2048 : Shape := ⟨1, ![2048]⟩
abbrev S2048x3 : Shape := ⟨2, ![2048, 3]⟩
abbrev S3 : Shape := ⟨1, ![3]⟩
abbrev S1 : Shape := ⟨1, ![1]⟩
abbrev S3x110x10000 : Shape := ⟨3, ![3, 110, 10000]⟩
abbrev S110x10000 : Shape := ⟨2, ![110, 10000]⟩
abbrev S3x110x10112 : Shape := ⟨3, ![3, 110, 10112]⟩
abbrev S110x10112 : Shape := ⟨2, ![110, 10112]⟩
abbrev S2x110x128 : Shape := ⟨3, ![2, 110, 128]⟩
abbrev S2x8x128 : Shape := ⟨3, ![2, 8, 128]⟩
abbrev S8x128 : Shape := ⟨2, ![8, 128]⟩
abbrev S1x110x128 : Shape := ⟨3, ![1, 110, 128]⟩
abbrev S220x128 : Shape := ⟨2, ![220, 128]⟩
abbrev S16x128 : Shape := ⟨2, ![16, 128]⟩
abbrev S1x4096 : Shape := ⟨2, ![1, 4096]⟩
abbrev S1x2048 : Shape := ⟨2, ![1, 2048]⟩
abbrev S1x3 : Shape := ⟨2, ![1, 3]⟩
abbrev S60x3 : Shape := ⟨2, ![60, 3]⟩
abbrev S3x2048 : Shape := ⟨2, ![3, 2048]⟩
abbrev S2048x2048 : Shape := ⟨2, ![2048, 2048]⟩
abbrev S60x2048 : Shape := ⟨2, ![60, 2048]⟩
abbrev S220 : Shape := ⟨1, ![220]⟩
abbrev S220x1 : Shape := ⟨2, ![220, 1]⟩
abbrev S110x1 : Shape := ⟨2, ![110, 1]⟩
abbrev S16 : Shape := ⟨1, ![16]⟩
abbrev S16x1 : Shape := ⟨2, ![16, 1]⟩
abbrev S8 : Shape := ⟨1, ![8]⟩
abbrev S8x1 : Shape := ⟨2, ![8, 1]⟩
abbrev S1x1 : Shape := ⟨2, ![1, 1]⟩
abbrev S50x4 : Shape := ⟨2, ![50, 4]⟩
abbrev S110x4 : Shape := ⟨2, ![110, 4]⟩
abbrev S220x110 : Shape := ⟨2, ![220, 110]⟩
abbrev S1x512 : Shape := ⟨2, ![1, 512]⟩
abbrev S1x720 : Shape := ⟨2, ![1, 720]⟩
abbrev S1x360 : Shape := ⟨2, ![1, 360]⟩
abbrev S720x60 : Shape := ⟨2, ![720, 60]⟩
abbrev S360x60 : Shape := ⟨2, ![360, 60]⟩
abbrev S60x1 : Shape := ⟨2, ![60, 1]⟩
abbrev S59x1 : Shape := ⟨2, ![59, 1]⟩

abbrev nBuf : Table → Nat
  | .hbm => 35
  | .local .tc .vmem => 20
  | .local .tc .smem => 1
  | .local .scScalar .smem => 1
  | _ => 0

abbrev bufTy : (tb : Table) → Fin (nBuf tb) → BufTy
  | .hbm, ⟨0, _⟩ => ⟨S60x4, .f32⟩
  | .hbm, ⟨1, _⟩ => ⟨S10000x110x3, .f32⟩
  | .hbm, ⟨2, _⟩ => ⟨S10000x110x3, .f32⟩
  | .hbm, ⟨3, _⟩ => ⟨S10000x110, .f32⟩
  | .hbm, ⟨4, _⟩ => ⟨S10000x110, .i1⟩
  | .hbm, ⟨5, _⟩ => ⟨S_, .i32⟩
  | .hbm, ⟨6, _⟩ => ⟨S220x512, .f32⟩
  | .hbm, ⟨7, _⟩ => ⟨S512x720, .f32⟩
  | .hbm, ⟨8, _⟩ => ⟨S512x360, .f32⟩
  | .hbm, ⟨9, _⟩ => ⟨S3x4096, .f32⟩
  | .hbm, ⟨10, _⟩ => ⟨S4096, .f32⟩
  | .hbm, ⟨11, _⟩ => ⟨S4096x2048, .f32⟩
  | .hbm, ⟨12, _⟩ => ⟨S2048, .f32⟩
  | .hbm, ⟨13, _⟩ => ⟨S2048x3, .f32⟩
  | .hbm, ⟨14, _⟩ => ⟨S3, .f32⟩
  | .hbm, ⟨15, _⟩ => ⟨S1, .i32⟩
  | .hbm, ⟨16, _⟩ => ⟨S3x110x10000, .f32⟩
  | .hbm, ⟨17, _⟩ => ⟨S3x110x10000, .f32⟩
  | .hbm, ⟨18, _⟩ => ⟨S110x10000, .f32⟩
  | .hbm, ⟨19, _⟩ => ⟨S_, .f32⟩
  | .hbm, ⟨20, _⟩ => ⟨S3x110x10112, .f32⟩
  | .hbm, ⟨21, _⟩ => ⟨S_, .f32⟩
  | .hbm, ⟨22, _⟩ => ⟨S3x110x10112, .f32⟩
  | .hbm, ⟨23, _⟩ => ⟨S_, .f32⟩
  | .hbm, ⟨24, _⟩ => ⟨S110x10112, .f32⟩
  | .hbm, ⟨25, _⟩ => ⟨S2x110x128, .f32⟩
  | .hbm, ⟨26, _⟩ => ⟨S2x8x128, .f32⟩
  | .hbm, ⟨27, _⟩ => ⟨S8x128, .f32⟩
  | .hbm, ⟨28, _⟩ => ⟨S220x128, .f32⟩
  | .hbm, ⟨29, _⟩ => ⟨S16x128, .f32⟩
  | .hbm, ⟨30, _⟩ => ⟨S1x4096, .f32⟩
  | .hbm, ⟨31, _⟩ => ⟨S1x2048, .f32⟩
  | .hbm, ⟨32, _⟩ => ⟨S1x3, .f32⟩
  | .hbm, ⟨33, _⟩ => ⟨S60x3, .f32⟩
  | .hbm, ⟨34, _⟩ => ⟨S60x3, .f32⟩
  | .local .tc .vmem, ⟨0, _⟩ => ⟨S60x4, .f32⟩
  | .local .tc .vmem, ⟨1, _⟩ => ⟨S220x128, .f32⟩
  | .local .tc .vmem, ⟨2, _⟩ => ⟨S16x128, .f32⟩
  | .local .tc .vmem, ⟨3, _⟩ => ⟨S8x128, .f32⟩
  | .local .tc .vmem, ⟨4, _⟩ => ⟨S220x512, .f32⟩
  | .local .tc .vmem, ⟨5, _⟩ => ⟨S512x720, .f32⟩
  | .local .tc .vmem, ⟨6, _⟩ => ⟨S512x360, .f32⟩
  | .local .tc .vmem, ⟨7, _⟩ => ⟨S3x2048, .f32⟩
  | .local .tc .vmem, ⟨8, _⟩ => ⟨S3x2048, .f32⟩
  | .local .tc .vmem, ⟨9, _⟩ => ⟨S1x2048, .f32⟩
  | .local .tc .vmem, ⟨10, _⟩ => ⟨S1x2048, .f32⟩
  | .local .tc .vmem, ⟨11, _⟩ => ⟨S2048x2048, .f32⟩
  | .local .tc .vmem, ⟨12, _⟩ => ⟨S2048x2048, .f32⟩
  | .local .tc .vmem, ⟨13, _⟩ => ⟨S1x2048, .f32⟩
  | .local .tc .vmem, ⟨14, _⟩ => ⟨S2048x3, .f32⟩
  | .local .tc .vmem, ⟨15, _⟩ => ⟨S1x3, .f32⟩
  | .local .tc .vmem, ⟨16, _⟩ => ⟨S60x3, .f32⟩
  | .local .tc .vmem, ⟨17, _⟩ => ⟨S60x3, .f32⟩
  | .local .tc .vmem, ⟨18, _⟩ => ⟨S60x3, .f32⟩
  | .local .tc .vmem, ⟨19, _⟩ => ⟨S60x2048, .f32⟩
  | .local .tc .smem, ⟨0, _⟩ => ⟨S1, .i32⟩
  | .local .scScalar .smem, ⟨0, _⟩ => ⟨S1, .i32⟩
  | _, _ => ⟨S60x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14_0 : Ref sig .tc := ⟨.hbm, 33, rfl⟩
abbrev main_v14_1 : Ref sig .tc := ⟨.hbm, 34, rfl⟩
abbrev main_v0 : Ref sig .tc := ⟨.smem, 0, rfl⟩
abbrev main_v1_scs : Ref sig .scScalar := ⟨.hbm, 15, rfl⟩
abbrev main_v5_scs : Ref sig .scScalar := ⟨.hbm, 20, rfl⟩
abbrev main_v6_scs : Ref sig .scScalar := ⟨.hbm, 22, rfl⟩
abbrev main_v7_scs : Ref sig .scScalar := ⟨.hbm, 24, rfl⟩
abbrev main_v8_0_scs : Ref sig .scScalar := ⟨.hbm, 25, rfl⟩
abbrev main_v8_1_scs : Ref sig .scScalar := ⟨.hbm, 26, rfl⟩
abbrev main_v8_2_scs : Ref sig .scScalar := ⟨.hbm, 27, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg7_1 : Ref sig .tc := ⟨.vmem, 8, rfl⟩
abbrev cc1_stg8_0 : Ref sig .tc := ⟨.vmem, 9, rfl⟩
abbrev cc1_stg8_1 : Ref sig .tc := ⟨.vmem, 10, rfl⟩
abbrev cc1_stg9_0 : Ref sig .tc := ⟨.vmem, 11, rfl⟩
abbrev cc1_stg9_1 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg13_0 : Ref sig .tc := ⟨.vmem, 16, rfl⟩
abbrev cc1_stg14_0 : Ref sig .tc := ⟨.vmem, 17, rfl⟩
abbrev cc1_scratch0 : Ref sig .tc := ⟨.vmem, 18, rfl⟩
abbrev cc1_scratch1 : Ref sig .tc := ⟨.vmem, 19, rfl⟩
abbrev cc0_scratch0 : Ref sig .scScalar := ⟨.smem, 0, rfl⟩
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem7_1 : DmaSem sig := 13
abbrev cc1_sem8_0 : DmaSem sig := 14
abbrev cc1_sem8_1 : DmaSem sig := 15
abbrev cc1_sem9_0 : DmaSem sig := 16
abbrev cc1_sem9_1 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32_6 : BitVec 32 := 0#32
  let v20 : BitVec 1 := Scalar.cmpi .eq arg0 c0_i32_6
  let v21 : BitVec 32 := Scalar.extui v20
  let c0_i32_7 : BitVec 32 := 0#32
  let v22 : BitVec 1 := Scalar.cmpi .ne v21 c0_i32_7
  v22

def k0_off1 (v1 : BitVec 32) : Fin 3 → Nat :=
  let c0_i32_13_r1 : BitVec 32 := 0#32
  let c0_i32_14_r1 : BitVec 32 := 0#32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_5 : BitVec 32 := 128#32
  let v19 : BitVec 32 := Scalar.muli v18 c128_i32_5
  ![0, 0, v19.toNat]

def k0_off2 (v1 : BitVec 32) : Fin 2 → Nat :=
  let c48_i32_r2 : BitVec 32 := 48#32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_5 : BitVec 32 := 128#32
  let v19 : BitVec 32 := Scalar.muli v18 c128_i32_5
  ![48, v19.toNat]
def k0_cond2 (i : grid0.Coords) : BitVec 1 :=
  let arg0 : BitVec 32 := BitVec.ofNat 32 (i 0).val
  let c1_i32_8 : BitVec 32 := 1#32
  let v23 : BitVec 1 := Scalar.cmpi .eq arg0 c1_i32_8
  let v24 : BitVec 32 := Scalar.extui v23
  let c0_i32_9 : BitVec 32 := 0#32
  let v25 : BitVec 1 := Scalar.cmpi .ne v24 c0_i32_9
  v25

def k0_off3 (v1 : BitVec 32) : Fin 3 → Nat :=
  let c1_i32_13_r3 : BitVec 32 := 1#32
  let c0_i32_14_r3 : BitVec 32 := 0#32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_5 : BitVec 32 := 128#32
  let v19 : BitVec 32 := Scalar.muli v18 c128_i32_5
  ![1, 0, v19.toNat]
def k0_off4 (v1 : BitVec 32) : Fin 3 → Nat :=
  let c0_i32_10_r4 : BitVec 32 := 0#32
  let c48_i32_r4 : BitVec 32 := 48#32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_5 : BitVec 32 := 128#32
  let v19 : BitVec 32 := Scalar.muli v18 c128_i32_5
  ![0, 48, v19.toNat]

def k0_chk1 (i : grid0.Coords) (v1 : BitVec 32) : Prop :=
  (∀ (k0_h1 : k0_cond1 i = 1#1), ∀ a, (k0_off1 v1) a + S1x110x128.size a ≤ S3x110x10112.size a) ∧
  (∀ (k0_h1 : k0_cond1 i = 1#1), ∀ a, (k0_off2 v1) a + S8x128.size a ≤ S110x10112.size a) ∧
  (∀ (k0_h2 : k0_cond2 i = 1#1), ∀ a, (k0_off3 v1) a + S1x110x128.size a ≤ S3x110x10112.size a) ∧
  (∀ (k0_h2 : k0_cond2 i = 1#1), ∀ a, (k0_off4 v1) a + S2x8x128.size a ≤ S3x110x10112.size a)
theorem k0_off1_inb : ∀ (i : grid0.Coords) (v1 : BitVec 32) (k0_hw1 : k0_chk1 i v1), ∀ (k0_h1 : k0_cond1 i = 1#1), ∀ a, (k0_off1 v1) a + S1x110x128.size a ≤ S3x110x10112.size a := fun i v1 k0_hw1 k0_h1 => k0_hw1.1 k0_h1
theorem k0_off2_inb : ∀ (i : grid0.Coords) (v1 : BitVec 32) (k0_hw1 : k0_chk1 i v1), ∀ (k0_h1 : k0_cond1 i = 1#1), ∀ a, (k0_off2 v1) a + S8x128.size a ≤ S110x10112.size a := fun i v1 k0_hw1 k0_h1 => k0_hw1.2.1 k0_h1
theorem k0_off3_inb : ∀ (i : grid0.Coords) (v1 : BitVec 32) (k0_hw1 : k0_chk1 i v1), ∀ (k0_h2 : k0_cond2 i = 1#1), ∀ a, (k0_off3 v1) a + S1x110x128.size a ≤ S3x110x10112.size a := fun i v1 k0_hw1 k0_h2 => k0_hw1.2.2.1 k0_h2
theorem k0_off4_inb : ∀ (i : grid0.Coords) (v1 : BitVec 32) (k0_hw1 : k0_chk1 i v1), ∀ (k0_h2 : k0_cond2 i = 1#1), ∀ a, (k0_off4 v1) a + S2x8x128.size a ≤ S3x110x10112.size a := fun i v1 k0_hw1 k0_h2 => k0_hw1.2.2.2 k0_h2

abbrev grid1 : Pipeline.Grid := ⟨1, ![2], ![false]⟩

abbrev pre1 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k1_cond2 (i : grid1.Coords) : BitVec 1 :=
  let arg0 : BitVec 32 := BitVec.ofNat 32 (i 0).val
  let c1_i32 : BitVec 32 := 1#32
  let v33 : BitVec 1 := Scalar.cmpi .eq arg0 c1_i32
  let v34 : BitVec 32 := Scalar.extui v33
  let c0_i32_19 : BitVec 32 := 0#32
  let v35 : BitVec 1 := Scalar.cmpi .ne v34 c0_i32_19
  v35

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S60x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S220x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S220x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x720 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x360 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S3x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2048x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S2048x3 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x3 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S60x3 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S60x3 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S60x4 : Shape := ⟨2, ![60, 4]⟩
abbrev S10000x110x3 : Shape := ⟨3, ![10000, 110, 3]⟩
abbrev S10000x110 : Shape := ⟨2, ![10000, 110]⟩
abbrev S_ : Shape := ⟨0, ![]⟩
abbrev S220x512 : Shape := ⟨2, ![220, 512]⟩
abbrev S512x720 : Shape := ⟨2, ![512, 720]⟩
abbrev S512x360 : Shape := ⟨2, ![512, 360]⟩
abbrev S3x4096 : Shape := ⟨2, ![3, 4096]⟩
abbrev S4096 : Shape := ⟨1, ![4096]⟩
abbrev S4096x2048 : Shape := ⟨2, ![4096, 2048]⟩
abbrev S2048 : Shape := ⟨1, ![2048]⟩
abbrev S2048x3 : Shape := ⟨2, ![2048, 3]⟩
abbrev S3 : Shape := ⟨1, ![3]⟩
abbrev S60x2 : Shape := ⟨2, ![60, 2]⟩
abbrev S1x60x2 : Shape := ⟨3, ![1, 60, 2]⟩
abbrev S10000x110x2 : Shape := ⟨3, ![10000, 110, 2]⟩
abbrev S10000x220 : Shape := ⟨2, ![10000, 220]⟩
abbrev S10000x512 : Shape := ⟨2, ![10000, 512]⟩
abbrev S10000x720 : Shape := ⟨2, ![10000, 720]⟩
abbrev S10000x6x60x2 : Shape := ⟨4, ![10000, 6, 60, 2]⟩
abbrev S10000x360 : Shape := ⟨2, ![10000, 360]⟩
abbrev S10000x6x60x1 : Shape := ⟨4, ![10000, 6, 60, 1]⟩
abbrev S10000x1x3 : Shape := ⟨3, ![10000, 1, 3]⟩
abbrev S10000x3 : Shape := ⟨2, ![10000, 3]⟩
abbrev S10000x1 : Shape := ⟨2, ![10000, 1]⟩
abbrev S10000 : Shape := ⟨1, ![10000]⟩
abbrev S10000x2 : Shape := ⟨2, ![10000, 2]⟩
abbrev S10000x1x2 : Shape := ⟨3, ![10000, 1, 2]⟩
abbrev S10000x2x2 : Shape := ⟨3, ![10000, 2, 2]⟩
abbrev S10000x1x60x2 : Shape := ⟨4, ![10000, 1, 60, 2]⟩
abbrev S10000x60x2 : Shape := ⟨3, ![10000, 60, 2]⟩
abbrev S10000x59x2 : Shape := ⟨3, ![10000, 59, 2]⟩
abbrev S10000x1x60x1 : Shape := ⟨4, ![10000, 1, 60, 1]⟩
abbrev S10000x60x1 : Shape := ⟨3, ![10000, 60, 1]⟩
abbrev S10000x1x1 : Shape := ⟨3, ![10000, 1, 1]⟩
abbrev S10000x60x3 : Shape := ⟨3, ![10000, 60, 3]⟩
abbrev S1x60x3 : Shape := ⟨3, ![1, 60, 3]⟩
abbrev S60x3 : Shape := ⟨2, ![60, 3]⟩
abbrev S60x4096 : Shape := ⟨2, ![60, 4096]⟩
abbrev S1x4096 : Shape := ⟨2, ![1, 4096]⟩
abbrev S60x2048 : Shape := ⟨2, ![60, 2048]⟩
abbrev S1x2048 : Shape := ⟨2, ![1, 2048]⟩
abbrev S1x3 : Shape := ⟨2, ![1, 3]⟩

abbrev nBuf : Space → Nat
  | .hbm => 166
  | .vmem => 0
  | .smem => 0
  | _ => 0

abbrev hbmTy0_0 (i : Nat) : BufTy := match i % 128 with
  | 0 => ⟨S60x4, .f32⟩
  | 1 => ⟨S10000x110x3, .f32⟩
  | 2 => ⟨S10000x110x3, .f32⟩
  | 3 => ⟨S10000x110, .f32⟩
  | 4 => ⟨S10000x110, .i1⟩
  | 5 => ⟨S_, .i32⟩
  | 6 => ⟨S220x512, .f32⟩
  | 7 => ⟨S512x720, .f32⟩
  | 8 => ⟨S512x360, .f32⟩
  | 9 => ⟨S3x4096, .f32⟩
  | 10 => ⟨S4096, .f32⟩
  | 11 => ⟨S4096x2048, .f32⟩
  | 12 => ⟨S2048, .f32⟩
  | 13 => ⟨S2048x3, .f32⟩
  | 14 => ⟨S3, .f32⟩
  | 15 => ⟨S_, .f32⟩
  | 16 => ⟨S_, .f32⟩
  | 17 => ⟨S_, .f32⟩
  | 18 => ⟨S60x2, .f32⟩
  | 19 => ⟨S1x60x2, .f32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S10000x110x3, .f32⟩
  | 28 => ⟨S60x2, .f32⟩
  | 29 => ⟨S1x60x2, .f32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S10000x110x3, .f32⟩
  | 38 => ⟨S10000x110x2, .f32⟩
  | 39 => ⟨S10000x220, .f32⟩
  | 40 => ⟨S10000x512, .f32⟩
  | 41 => ⟨S10000x512, .f32⟩
  | 42 => ⟨S10000x720, .f32⟩
  | 43 => ⟨S10000x6x60x2, .f32⟩
  | 44 => ⟨S10000x360, .f32⟩
  | 45 => ⟨S10000x6x60x1, .f32⟩
  | 46 => ⟨S10000x1x3, .f32⟩
  | 47 => ⟨S10000x3, .f32⟩
  | 48 => ⟨S10000x1, .f32⟩
  | 49 => ⟨S10000, .f32⟩
  | 50 => ⟨S10000, .f32⟩
  | 51 => ⟨S10000, .f32⟩
  | 52 => ⟨S10000, .f32⟩
  | 53 => ⟨S10000x1, .f32⟩
  | 54 => ⟨S10000x1, .f32⟩
  | 55 => ⟨S10000x2, .f32⟩
  | 56 => ⟨S10000x1, .f32⟩
  | 57 => ⟨S10000x1, .f32⟩
  | 58 => ⟨S10000x2, .f32⟩
  | 59 => ⟨S10000x1x2, .f32⟩
  | 60 => ⟨S10000x1x2, .f32⟩
  | 61 => ⟨S10000x2x2, .f32⟩
  | 62 => ⟨S10000x1x60x2, .f32⟩
  | 63 => ⟨S10000x60x2, .f32⟩
  | 64 => ⟨S10000x2x2, .f32⟩
  | 65 => ⟨S10000x60x2, .f32⟩
  | 66 => ⟨S10000x2, .f32⟩
  | 67 => ⟨S10000x1x2, .f32⟩
  | 68 => ⟨S10000x60x2, .f32⟩
  | 69 => ⟨S10000x60x2, .f32⟩
  | 70 => ⟨S10000x59x2, .f32⟩
  | 71 => ⟨S10000x59x2, .f32⟩
  | 72 => ⟨S10000x59x2, .f32⟩
  | 73 => ⟨S10000x59x2, .f32⟩
  | 74 => ⟨S10000x59x2, .f32⟩
  | 75 => ⟨S10000x1x2, .f32⟩
  | 76 => ⟨S10000x2, .f32⟩
  | 77 => ⟨S10000x1x2, .f32⟩
  | 78 => ⟨S10000x2, .f32⟩
  | 79 => ⟨S10000x2, .f32⟩
  | 80 => ⟨S10000x1x2, .f32⟩
  | 81 => ⟨S10000x60x2, .f32⟩
  | 82 => ⟨S10000x1x60x1, .f32⟩
  | 83 => ⟨S10000x60x1, .f32⟩
  | 84 => ⟨S10000x1x1, .f32⟩
  | 85 => ⟨S10000x60x1, .f32⟩
  | 86 => ⟨S10000x60x1, .f32⟩
  | 87 => ⟨S_, .f32⟩
  | 88 => ⟨S10000x60x1, .f32⟩
  | 89 => ⟨S10000x60x1, .f32⟩
  | 90 => ⟨S_, .f32⟩
  | 91 => ⟨S_, .f32⟩
  | 92 => ⟨S10000x60x1, .f32⟩
  | 93 => ⟨S10000x60x1, .f32⟩
  | 94 => ⟨S_, .f32⟩
  | 95 => ⟨S10000x60x1, .f32⟩
  | 96 => ⟨S10000x60x1, .i1⟩
  | 97 => ⟨S_, .f32⟩
  | 98 => ⟨S10000x60x1, .f32⟩
  | 99 => ⟨S10000x60x1, .i1⟩
  | 100 => ⟨S_, .f32⟩
  | 101 => ⟨S_, .i1⟩
  | 102 => ⟨S10000x60x1, .i1⟩
  | 103 => ⟨S10000x60x1, .i1⟩
  | 104 => ⟨S10000x60x1, .i1⟩
  | 105 => ⟨S10000x60x1, .f32⟩
  | 106 => ⟨S10000x60x1, .f32⟩
  | 107 => ⟨S10000x60x1, .f32⟩
  | 108 => ⟨S_, .f32⟩
  | 109 => ⟨S10000x60x1, .f32⟩
  | 110 => ⟨S10000x60x1, .f32⟩
  | 111 => ⟨S10000x59x2, .f32⟩
  | 112 => ⟨S10000x59x2, .f32⟩
  | 113 => ⟨S10000x59x2, .f32⟩
  | 114 => ⟨S10000x59x2, .f32⟩
  | 115 => ⟨S10000x59x2, .f32⟩
  | 116 => ⟨S10000x1x2, .f32⟩
  | 117 => ⟨S10000x2, .f32⟩
  | 118 => ⟨S10000x1x2, .f32⟩
  | 119 => ⟨S10000x2, .f32⟩
  | 120 => ⟨S10000x2, .f32⟩
  | 121 => ⟨S10000x1x2, .f32⟩
  | 122 => ⟨S10000x60x2, .f32⟩
  | 123 => ⟨S10000x60x3, .f32⟩
  | 124 => ⟨S_, .i32⟩
  | 125 => ⟨S_, .i1⟩
  | 126 => ⟨S_, .i32⟩
  | 127 => ⟨S_, .i32⟩
  | _ => ⟨S60x4, .f32⟩

abbrev hbmTy0_1 (i : Nat) : BufTy := match i % 128 with
  | 0 => ⟨S_, .i32⟩
  | 1 => ⟨S_, .i32⟩
  | 2 => ⟨S_, .i32⟩
  | 3 => ⟨S1x60x3, .f32⟩
  | 4 => ⟨S60x3, .f32⟩
  | 5 => ⟨S60x4096, .f32⟩
  | 6 => ⟨S1x4096, .f32⟩
  | 7 => ⟨S60x4096, .f32⟩
  | 8 => ⟨S60x4096, .f32⟩
  | 9 => ⟨S_, .f32⟩
  | 10 => ⟨S60x4096, .f32⟩
  | 11 => ⟨S60x4096, .f32⟩
  | 12 => ⟨S60x2048, .f32⟩
  | 13 => ⟨S1x2048, .f32⟩
  | 14 => ⟨S60x2048, .f32⟩
  | 15 => ⟨S60x2048, .f32⟩
  | 16 => ⟨S60x3, .f32⟩
  | 17 => ⟨S1x3, .f32⟩
  | 18 => ⟨S60x3, .f32⟩
  | 19 => ⟨S60x3, .f32⟩
  | 20 => ⟨S60x3, .f32⟩
  | 21 => ⟨S_, .f32⟩
  | 22 => ⟨S60x3, .f32⟩
  | 23 => ⟨S60x3, .f32⟩
  | 24 => ⟨S60x3, .f32⟩
  | 25 => ⟨S60x3, .f32⟩
  | 26 => ⟨S60x3, .i1⟩
  | 27 => ⟨S60x3, .f32⟩
  | 28 => ⟨S60x3, .f32⟩
  | 29 => ⟨S60x3, .f32⟩
  | 30 => ⟨S60x3, .f32⟩
  | 31 => ⟨S60x3, .f32⟩
  | 32 => ⟨S60x3, .f32⟩
  | 33 => ⟨S60x3, .f32⟩
  | 34 => ⟨S60x3, .f32⟩
  | 35 => ⟨S_, .f32⟩
  | 36 => ⟨S60x3, .f32⟩
  | 37 => ⟨S60x3, .f32⟩
  | _ => ⟨S60x4, .f32⟩

abbrev hbmTy (i : Nat) : BufTy := match i / 128 with
  | 0 => hbmTy0_0 i
  | 1 => hbmTy0_1 i
  | _ => ⟨S60x4, .f32⟩

abbrev bufTy : (tb : Table) → Fin (tcTables nBuf tb) → BufTy
  | .hbm, ⟨i, _⟩ => hbmTy i
  | _, _ => ⟨S60x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_cst_0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_c_1 : Ref sig .tc := ⟨.hbm, 22, rfl⟩
abbrev main_v4 : Ref sig .tc := ⟨.hbm, 23, rfl⟩
abbrev main_v5 : Ref sig .tc := ⟨.hbm, 24, rfl⟩
abbrev main_c_2 : Ref sig .tc := ⟨.hbm, 25, rfl⟩
abbrev main_c_3 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_c_4 : Ref sig .tc := ⟨.hbm, 30, rfl⟩
abbrev main_v9 : Ref sig .tc := ⟨.hbm, 31, rfl⟩
abbrev main_c_5 : Ref sig .tc := ⟨.hbm, 32, rfl⟩
abbrev main_v10 : Ref sig .tc := ⟨.hbm, 33, rfl⟩
abbrev main_v11 : Ref sig .tc := ⟨.hbm, 34, rfl⟩
abbrev main_c_6 : Ref sig .tc := ⟨.hbm, 35, rfl⟩
abbrev main_c_7 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_8 : Ref sig .tc := ⟨.hbm, 87, rfl⟩
abbrev main_v62 : Ref sig .tc := ⟨.hbm, 88, rfl⟩
abbrev main_v63 : Ref sig .tc := ⟨.hbm, 89, rfl⟩
abbrev main_cst_9 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_call0_cst : Ref sig .tc := ⟨.hbm, 94, rfl⟩
abbrev main_call0_v3 : Ref sig .tc := ⟨.hbm, 95, rfl⟩
abbrev main_call0_v4 : Ref sig .tc := ⟨.hbm, 96, rfl⟩
abbrev main_call0_cst_0 : Ref sig .tc := ⟨.hbm, 97, rfl⟩
abbrev main_call0_v5 : Ref sig .tc := ⟨.hbm, 98, rfl⟩
abbrev main_call0_v6 : Ref sig .tc := ⟨.hbm, 99, rfl⟩
abbrev main_call0_cst_1 : Ref sig .tc := ⟨.hbm, 100, rfl⟩
abbrev main_call0_v7 : Ref sig .tc := ⟨.hbm, 101, rfl⟩
abbrev main_call0_v8 : Ref sig .tc := ⟨.hbm, 102, rfl⟩
abbrev main_call0_v9 : Ref sig .tc := ⟨.hbm, 103, rfl⟩
abbrev main_call0_v10 : Ref sig .tc := ⟨.hbm, 104, rfl⟩
abbrev main_call0_v11 : Ref sig .tc := ⟨.hbm, 105, rfl⟩
abbrev main_call0_v12 : Ref sig .tc := ⟨.hbm, 106, rfl⟩
abbrev main_v64 : Ref sig .tc := ⟨.hbm, 107, rfl⟩
abbrev main_cst_10 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_c_11 : Ref sig .tc := ⟨.hbm, 124, rfl⟩
abbrev main_v80 : Ref sig .tc := ⟨.hbm, 125, rfl⟩
abbrev main_c_12 : Ref sig .tc := ⟨.hbm, 126, rfl⟩
abbrev main_v81 : Ref sig .tc := ⟨.hbm, 127, rfl⟩
abbrev main_v82 : Ref sig .tc := ⟨.hbm, 128, rfl⟩
abbrev main_c_13 : Ref sig .tc := ⟨.hbm, 129, rfl⟩
abbrev main_c_14 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_call1_cst : Ref sig .tc := ⟨.hbm, 137, rfl⟩
abbrev main_call1_v0 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_call2_cst : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_v6 : Ref sig .tc := ⟨.hbm, 156, rfl⟩
abbrev main_call2_v7 : Ref sig .tc := ⟨.hbm, 157, rfl⟩
abbrev main_call2_v8 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_v99 : Ref sig .tc := ⟨.hbm, 162, rfl⟩
abbrev main_cst_15 : Ref sig .tc := ⟨.hbm, 163, rfl⟩
abbrev main_v100 : Ref sig .tc := ⟨.hbm, 164, rfl⟩
abbrev main_v101 : Ref sig .tc := ⟨.hbm, 165, rfl⟩

abbrev nD : Nat := 1
abbrev τ : Topo := Topo.v7x

variable {F : FTy → Type} [FloatOps F]
-- ==== Proof.Words.lean ====
/-
  The index words of the gather.  Both sequencers read the agent's number from their scratch and compute from it the
  first column of the 128-wide block the number lies in: the signed quotient by 128, corrected to round down, times 128.
  For a number in the agents' range the correction never applies and the first column is `stripe v`, the largest
  multiple of 128 at most the number.
-/
module

public import proofs.«01_k».proof.Defs
public import Idealize.ShloMosaic.Lib.Routing.Words

@[expose] public section

namespace Cert.Proof

open Cert.KernelIdeal Idealize.ShloMosaic

/-- The first column of the 128-wide block that holds column `v`. -/
def stripe (v : BitVec 32) : ℕ := v.toNat / 128 * 128

theorem stripe_le (v : BitVec 32) : stripe v ≤ v.toNat := Nat.div_mul_le_self _ _

/-- The block of an agent's column lies within the padded axis. -/
theorem stripe_add_le {v : BitVec 32} (h : v.toNat < 10000) : stripe v + 128 ≤ 10112 := by
  unfold stripe; omega

/-- The block column as the kernel computes it. -/
theorem floorWord {v : BitVec 32} (h : v.toNat < 10000) :
    Scalar.muli (Scalar.select (Scalar.andi
        (Scalar.cmpi .ne (Scalar.subi (Scalar.extui (Scalar.cmpi .sgt v 0#32) : BitVec 32) (Scalar.extui (Scalar.cmpi .slt v 0#32)))
          (Scalar.subi (Scalar.extui (Scalar.cmpi .sgt 128#32 0#32) : BitVec 32) (Scalar.extui (Scalar.cmpi .slt 128#32 0#32))))
        (Scalar.cmpi .ne (Scalar.remsi v 128#32) 0#32))
      (Scalar.subi (Scalar.divsi v 128#32) 1#32) (Scalar.divsi v 128#32)) 128#32 = BitVec.ofNat 32 (stripe v) := by
  obtain ⟨n, rfl⟩ : ∃ n, v = BitVec.ofNat 32 n := ⟨v.toNat, by simp⟩
  have hn : (BitVec.ofNat 32 n).toNat < 10000 := h
  rw [BitVec.toNat_ofNat] at hn
  have hm : BitVec.ofNat 32 n = BitVec.ofNat 32 (n % 2 ^ 32) := by
    apply BitVec.eq_of_toNat_eq; simp
  rw [hm]
  generalize n % 2 ^ 32 = k at hn
  have hd : Scalar.divsi (BitVec.ofNat 32 k) 128#32 = BitVec.ofNat 32 (k / 128) :=
    Routing.divsi_word .scalar (a := k) (b := 128) (by omega) (by omega) (by omega)
  have hr : Scalar.remsi (BitVec.ofNat 32 k) 128#32 = BitVec.ofNat 32 (k % 128) :=
    Routing.remsi_word .scalar (a := k) (b := 128) (by omega) (by omega) (by omega)
  rw [hd, hr]
  have hs : stripe (BitVec.ofNat 32 k) = k / 128 * 128 := by
    unfold stripe; rw [BitVec.toNat_ofNat, Nat.mod_eq_of_lt (by omega)]
  rw [hs]
  have hmul : Scalar.muli (BitVec.ofNat 32 (k / 128)) 128#32 = BitVec.ofNat 32 (k / 128 * 128) := by
    apply BitVec.eq_of_toNat_eq
    simp [Scalar.muli, IntOp.muli, BitVec.toNat_mul]
  rcases Nat.eq_zero_or_pos k with rfl | hk
  · decide
  · have hki : (BitVec.ofNat 32 k).toInt = k := by
      have hk' : (BitVec.ofNat 32 k).toNat = k := by rw [BitVec.toNat_ofNat, Nat.mod_eq_of_lt (by omega)]
      rw [BitVec.toInt_eq_toNat_of_lt (by omega), hk']
    have h1 : Scalar.cmpi .sgt (BitVec.ofNat 32 k) 0#32 = 1#1 := by
      rw [show Scalar.cmpi .sgt (BitVec.ofNat 32 k) 0#32 = IntOp.cmpi .sgt (BitVec.ofNat 32 k) 0#32 from rfl]
      simp only [IntOp.cmpi, BitVec.slt]
      rw [hki]; simp [hk]
    have h2 : Scalar.cmpi .slt (BitVec.ofNat 32 k) 0#32 = 0#1 := by
      rw [show Scalar.cmpi .slt (BitVec.ofNat 32 k) 0#32 = IntOp.cmpi .slt (BitVec.ofNat 32 k) 0#32 from rfl]
      simp only [IntOp.cmpi, BitVec.slt]
      rw [hki, decide_eq_false (by simp)]; rfl
    rw [h1, h2]
    have h3 : ∀ c : BitVec 1, Scalar.andi (Scalar.cmpi .ne (Scalar.subi (Scalar.extui (1#1) : BitVec 32) (Scalar.extui (0#1)))
          (Scalar.subi (Scalar.extui (Scalar.cmpi .sgt 128#32 0#32) : BitVec 32) (Scalar.extui (Scalar.cmpi .slt 128#32 0#32)))) c = 0#1 := by
      decide
    rw [h3]
    exact hmul

theorem floorWord_toNat {v : BitVec 32} (h : v.toNat < 10000) : (BitVec.ofNat 32 (stripe v)).toNat = stripe v := by
  have := stripe_le v
  rw [BitVec.toNat_ofNat, Nat.mod_eq_of_lt (by omega)]

theorem off1 {v : BitVec 32} (h : v.toNat < 10000) : k0_off1 v = ![0, 0, stripe v] := by
  have := congrArg (fun w : BitVec 32 => (![0, 0, w.toNat] : Fin 3 → ℕ)) (floorWord h)
  rw [← floorWord_toNat h]; exact this
theorem off2 {v : BitVec 32} (h : v.toNat < 10000) : k0_off2 v = ![48, stripe v] := by
  have := congrArg (fun w : BitVec 32 => (![48, w.toNat] : Fin 2 → ℕ)) (floorWord h)
  rw [← floorWord_toNat h]; exact this
theorem off3 {v : BitVec 32} (h : v.toNat < 10000) : k0_off3 v = ![1, 0, stripe v] := by
  have := congrArg (fun w : BitVec 32 => (![1, 0, w.toNat] : Fin 3 → ℕ)) (floorWord h)
  rw [← floorWord_toNat h]; exact this
theorem off4 {v : BitVec 32} (h : v.toNat < 10000) : k0_off4 v = ![0, 48, stripe v] := by
  have := congrArg (fun w : BitVec 32 => (![0, 48, w.toNat] : Fin 3 → ℕ)) (floorWord h)
  rw [← floorWord_toNat h]; exact this

/-- The bounds the gather's copies need hold for every agent's number. -/
theorem chk {v : BitVec 32} (h : v.toNat < 10000) (i : grid0.Coords) : k0_chk1 i v := by
  have hs := stripe_add_le h
  unfold k0_chk1
  rw [off1 h, off2 h, off3 h, off4 h]
  refine ⟨fun _ => ?_, fun _ => ?_, fun _ => ?_, fun _ => ?_⟩
  · intro a; fin_cases a <;> simp <;> omega
  · intro a; fin_cases a <;> simp <;> omega
  · intro a; fin_cases a <;> simp <;> omega
  · intro a; fin_cases a <;> simp <;> omega

end Cert.Proof
-- ==== Proof.Setup.lean ====
/-
  The program as the launch theorem for SparseCore programs sees it, and the resource algebra of its proof: the
  handshakes of the SparseCore call, the rounds of the TensorCore pipeline, the counters of the copies, side by side.
-/
module

public import proofs.«01_k».proof.Proof.Words
public import Idealize.ShloMosaic.Lib.SparseCore.Quiescent
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open scoped Idealize.SL.BI
open Idealize.ShloMosaic.Rounds
open Idealize.ShloMosaic.ValueIdx

variable {F : FTy → Type} [FloatOps F]

/-! ## The program -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipeline's rounds. -/
abbrev UP : Type := URounds (GSem nD τ sig) Unit
abbrev UU : Type := UH × (UP × Counters)

/-- The assertions' model, at float values `F`. -/
abbrev MM (F : FTy → Type) : Type := MT nD τ sig (HIx 1) (Elt F) ℕ UU ℕ

abbrev EH {F : FTy → Type} : Emb UH (MM F) := embL
abbrev EP {F : FTy → Type} : Emb UP (MM F) := (Emb.inl : Emb UP (UP × Counters)).trans embR

instance EP_landsIn {F : FTy → Type} : (EP (F := F)).LandsIn (upEmb : UEmb _ (MM F)) := by unfold EP; infer_instance

end Cert.Proof

end
-- ==== Proof.Policy.lean ====
/-
  The values of the TensorCore kernel, over any float values: the network's input (heading and acceleration of the sixty
  points) from the agent's number and the staged blocks; what one chunk of 2048 columns adds to the accumulator; and the two
  results from the accumulator, as the printed payloads compose.
-/
module

public import proofs.«01_k».proof.Proof.Setup
public import Idealize.ShloMosaic.Lib.Pipeline.FrameBody

@[expose] public section

noncomputable section

namespace Cert.Proof

open Cert.KernelIdeal Cert.KernelIdeal.Gen

open Idealize.ShloMosaic
open Idealize.ShloMosaic.ValueIdx

variable {F : FTy → Type} [FloatOps F]

/-- The agent's number, as the kernel reads it from the prefetched table. -/
def word (tb : Vec F S1 .i32) : BitVec 32 := tb (ix1 0)

section Act
variable (w : BitVec 32) (states : Vec F S60x4 .f32) (pos : Vec F S220x128 .f32) (vel : Vec F S16x128 .f32) (head : Vec F S8x128 .f32)
variable (w0 : Vec F S220x512 .f32) (wpos : Vec F S512x720 .f32) (whead : Vec F S512x360 .f32)

/-- The agent's recorded positions, first and second coordinate, and velocities; their values at the last observed time. -/
def posX : FVec F S110x1 .f32 := k1_pay5 (F := F) w pos
def posY : FVec F S110x1 .f32 := k1_pay6 (F := F) w pos
def velXY : FVec F S16x1 .f32 := k1_pay7 (F := F) w vel
def yaw : F .f32 := k1_pay9 (k1_pay8 (F := F) w head)
def orgX : F .f32 := k1_pay10 (posX w pos)
def orgY : F .f32 := k1_pay11 (posY w pos)
def velX : F .f32 := k1_pay12 (velXY w vel)
def velY : F .f32 := k1_pay13 (velXY w vel)
/-- The encoder's output, the decoder's coordinates and headings. -/
def enc : FVec F S1x512 .f32 := k1_pay14 (posX w pos) (posY w pos) states w0
def dec : FVec F S1x720 .f32 := k1_pay15 (posX w pos) (posY w pos) states w0 wpos
def turn : FVec F S60x1 .f32 := k1_pay18 (enc w states pos w0) whead

/-- Acceleration, first coordinate. -/
def accX : FVec F S60x1 .f32 :=
  k1_pay28 (velX w vel) (iota .tc S60x1 32 [0] iota_S60x1_d0_w32) (k1_pay23 (F := F)) k1_pay25
    (k1_pay26 (yaw w head) (orgX w pos) (dec w states pos w0 wpos)) (k1_pay27 (yaw w head) (orgX w pos) (dec w states pos w0 wpos))
    (Scalar.ofBits .f32 0x41200000#32)
/-- Acceleration, second coordinate. -/
def accY : FVec F S60x1 .f32 :=
  k1_pay29 (orgY w pos) (velY w vel) (k1_pay22 (yaw w head) (orgY w pos) (dec w states pos w0 wpos)) (iota .tc S60x1 32 [0] iota_S60x1_d0_w32)
    (k1_pay23 (F := F)) (k1_pay24 (yaw w head) (orgY w pos) (dec w states pos w0 wpos))

/-- The network's input. -/
def act : FVec F S60x3 .f32 :=
  k1_pay31 (accX w states pos vel head w0 wpos) (accY w states pos vel head w0 wpos) (k1_pay30 (yaw w head) (turn w states pos w0 whead))
end Act

/-- The accumulator cleared. -/
def zeros : FVec F S60x2048 .f32 := k1_pay32

/-- Column `k` of the network's input, as the kernel loads it. -/
def colA (a : Vec F S60x3 .f32) : Vec F S60x1 .f32 := View.ld a (Rect.unit (s := S60x3) ![0, 0] S60x1.size inb_S60x3_S60x1_0_0)
def colB (a : Vec F S60x3 .f32) : Vec F S60x1 .f32 := View.ld a (Rect.unit (s := S60x3) ![0, 1] S60x1.size inb_S60x3_S60x1_0_1)
def colC (a : Vec F S60x3 .f32) : Vec F S60x1 .f32 := View.ld a (Rect.unit (s := S60x3) ![0, 2] S60x1.size inb_S60x3_S60x1_0_2)
/-- Row `k` of the first layer's weights in the chunk. -/
def rowA (x : Vec F S3x2048 .f32) : Vec F S1x2048 .f32 := View.ld x (Rect.unit (s := S3x2048) ![0, 0] S1x2048.size inb_S3x2048_S1x2048_0_0)
def rowB (x : Vec F S3x2048 .f32) : Vec F S1x2048 .f32 := View.ld x (Rect.unit (s := S3x2048) ![1, 0] S1x2048.size inb_S3x2048_S1x2048_1_0)
def rowC (x : Vec F S3x2048 .f32) : Vec F S1x2048 .f32 := View.ld x (Rect.unit (s := S3x2048) ![2, 0] S1x2048.size inb_S3x2048_S1x2048_2_0)

/-- The accumulator after one more chunk. -/
def chunk (a : Vec F S60x3 .f32) (w1 : Vec F S3x2048 .f32) (b1 : Vec F S1x2048 .f32) (w2 : Vec F S2048x2048 .f32) (s : Vec F S60x2048 .f32) : FVec F S60x2048 .f32 :=
  k1_pay33 (colA a) (colB a) (colC a) (rowA w1) (rowB w1) (rowC w1) b1 s w2

/-- The first result: the bounded mean. -/
def mean (s : Vec F S60x2048 .f32) (b2 : Vec F S1x2048 .f32) (w3 : Vec F S2048x3 .f32) (b3 : Vec F S1x3 .f32) : FVec F S60x3 .f32 := k1_pay2 s b2 w3 b3
/-- The second result: the positive spread. -/
def spread (s : Vec F S60x2048 .f32) (b2 : Vec F S1x2048 .f32) (w3 : Vec F S2048x3 .f32) (b3 : Vec F S1x3 .f32) : FVec F S60x3 .f32 := k1_pay3 s b2 w3 b3

end Cert.Proof

end
-- ==== Proof.Body.lean ====
/-
  The TensorCore kernel's body run at each of its two grid points, on whole buffers of known contents.
-/
module

public import proofs.«01_k».proof.Proof.Policy

@[expose] public section

noncomputable section

namespace Cert.Proof

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open Idealize.SL.BI.BIBase Idealize.SL.BI.Laws Idealize.SL.ProofMode Idealize.SL.Sem
open scoped Idealize.SL.BI
open Idealize.ShloMosaic.Rounds
open Idealize.ShloMosaic.ValueIdx
open Idealize.ShloMosaic.Tactic

variable {F : FTy → Type} [FloatOps F]

local notation "𝕄" => MT nD τ sig (HIx 1) (Elt F) ℕ UU ℕ

/-! ## Loads and stores of whole buffers -/

theorem zero2 : (![0, 0] : Fin 2 → ℕ) = fun _ => 0 := by funext a; fin_cases a <;> rfl

/-- After a store to the whole of a buffer it holds what was stored. -/
theorem read_stored {sp : Space} {S : Shape} {e : EltTy} (v : View sig .tc sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩), View.canon_cons_unit_zero h]

/-- A load of part of a buffer, after a store to the whole of it, reads that part of what was stored. -/
theorem readCov_stored {sp : Space} {S : Shape} {e : EltTy} (v : View sig .tc sp S e) {off : Fin S.rank → ℕ} (h : off = fun _ => 0)
    (inb : ∀ a, off a + S.size a ≤ S.size a) (w : S.Idx → Elt F e) (r : Rect S) :
    v.readCov [(⟨Rect.unit off S.size inb, w⟩ : View.Piece (Elt F) S e)] r.toLoadRect = View.ld w r := by
  rw [View.readCov_eq_canon_ld _ _ _ (fun y => ⟨_, List.mem_singleton_self _, View.mem_set_unit_zero h inb y⟩), View.canon_unit_zero h]

omit [FloatOps F] in
/-- The number read from the table. -/
theorem word_read (v : View sig .tc .smem S1 .i32) (f : v.ty.Contents (Elt F)) (x : (Rect.unit (s := S1) ![0] S1.size inb_S1_S1_0).shape.Idx) :
    View.readAt (Elt F) v (Rect.unit (s := S1) ![0] S1.size inb_S1_S1_0).toLoadRect f x = word (v.read (Elt F) f) := by
  rw [View.readAt_eq_ld]
  unfold word
  show v.read (Elt F) f _ = _
  congr 1; funext a; fin_cases a; apply Fin.ext
  have h := ((Rect.unit (s := S1) ![0] S1.size inb_S1_S1_0).emb x 0).isLt
  have h1 : S1.size 0 = 1 := rfl
  show (((Rect.unit (s := S1) ![0] S1.size inb_S1_S1_0).emb x) 0).val = 0
  omega

/-- The body at the grid's first point: the network's input is made and stored, the accumulator cleared, and the first chunk
    added to it; the results' buffers are left as they were. -/
theorem body_first (c : Dev nD) (E : Set ℕ) (i : grid1.Coords) (hi : (i 0).val = 0)
    (arg1 : Memref sig .tc .smem S1 .i32) (harg1 : arg1.IsWhole)
    (arg2 : Memref sig .tc .vmem S60x4 .f32) (harg2 : arg2.IsWhole)
    (arg3 : Memref sig .tc .vmem S220x128 .f32) (harg3 : arg3.IsWhole)
    (arg4 : Memref sig .tc .vmem S16x128 .f32) (harg4 : arg4.IsWhole)
    (arg5 : Memref sig .tc .vmem S8x128 .f32) (harg5 : arg5.IsWhole)
    (arg6 : Memref sig .tc .vmem S220x512 .f32) (harg6 : arg6.IsWhole)
    (arg7 : Memref sig .tc .vmem S512x720 .f32) (harg7 : arg7.IsWhole)
    (arg8 : Memref sig .tc .vmem S512x360 .f32) (harg8 : arg8.IsWhole)
    (arg9 : Memref sig .tc .vmem S3x2048 .f32) (harg9 : arg9.IsWhole)
    (arg10 : Memref sig .tc .vmem S1x2048 .f32) (harg10 : arg10.IsWhole)
    (arg11 : Memref sig .tc .vmem S2048x2048 .f32) (harg11 : arg11.IsWhole)
    (arg12 : Memref sig .tc .vmem S1x2048 .f32) (harg12 : arg12.IsWhole)
    (arg13 : Memref sig .tc .vmem S2048x3 .f32) (harg13 : arg13.IsWhole)
    (arg14 : Memref sig .tc .vmem S1x3 .f32) (harg14 : arg14.IsWhole)
    (arg15 : Memref sig .tc .vmem S60x3 .f32) (harg15 : arg15.IsWhole)
    (arg16 : Memref sig .tc .vmem S60x3 .f32) (harg16 : arg16.IsWhole)
    (arg17 : Memref sig .tc .vmem S60x3 .f32) (harg17 : arg17.IsWhole)
    (arg18 : Memref sig .tc .vmem S60x2048 .f32) (harg18 : arg18.IsWhole)
    (tb : Vec F S1 .i32) (x2 : Vec F S60x4 .f32) (x3 : Vec F S220x128 .f32) (x4 : Vec F S16x128 .f32) (x5 : Vec F S8x128 .f32) (x6 : Vec F S220x512 .f32) (x7 : Vec F S512x720 .f32) (x8 : Vec F S512x360 .f32) (x9 : Vec F S3x2048 .f32) (x10 : Vec F S1x2048 .f32) (x11 : Vec F S2048x2048 .f32) (x12 : Vec F S1x2048 .f32) (x13 : Vec F S2048x3 .f32) (x14 : Vec F S1x3 .f32) (x15 x16 : Vec F S60x3 .f32) (Q : PUnit → sProp 𝕄) :
    iprop(owns (c : Thread nD τ) arg1 fullShare tb
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ (∃ d, owns (c : Thread nD τ) arg17 fullShare d)
        ∗ (∃ d, owns (c : Thread nD τ) arg18 fullShare d)
        ∗ (iprop(owns (c : Thread nD τ) arg1 fullShare tb
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare (act (word tb) x2 x3 x4 x5 x6 x7 x8)
        ∗ owns (c : Thread nD τ) arg18 fullShare (chunk (act (word tb) x2 x3 x4 x5 x6 x7 x8) x9 x10 x11 zeros)) -∗ Q ⟨⟩))
      ⊢ wp frame (wpE (defs₀ (F := F)) Variants.none (c : Thread nD τ) none) E (cc1__policy_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by
  have h1 : Scalar.cmpi .ne (Scalar.extui (Scalar.cmpi .eq (BitVec.ofNat 32 (i 0).val) 0#32) : BitVec 32) 0#32 = 1#1 := by rw [hi]; decide
  have h2 : ¬ k1_cond2 i = 1#1 := by unfold k1_cond2; rw [hi]; decide
  simp only [cc1__policy_kernel_eq_skeleton]; unfold cc1__policy_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  subst hf1 hf2 hf3 hf4 hf5 hf6 hf7 hf8 hf9 hf10 hf11 hf12 hf13 hf14 hf15 hf16
  sl_exec
  sl_step
  have e : body_first.sl.r c arg1 f1 = (word (arg1.view.read (Elt F) f1)) := word_read _ _ _
  have e_1 : body_first.sl.r_1 c arg1 arg3 f1 f3 = posX (word (arg1.view.read (Elt F) f1)) (arg3.view.read (Elt F) f3) := by
    unfold body_first.sl.r_1 posX; simp only [View.readAt_eq_ld, View.ld_unit_zero (S := S60x4) zero2, View.ld_unit_zero (S := S220x128) zero2, View.ld_unit_zero (S := S16x128) zero2, View.ld_unit_zero (S := S8x128) zero2, View.ld_unit_zero (S := S220x512) zero2, View.ld_unit_zero (S := S512x720) zero2, View.ld_unit_zero (S := S512x360) zero2, View.ld_unit_zero (S := S1x2048) zero2, View.ld_unit_zero (S := S2048x2048) zero2, View.ld_unit_zero (S := S2048x3) zero2, View.ld_unit_zero (S := S1x3) zero2, View.ld_unit_zero (S := S60x2048) zero2]; rw [e]
  have e_2 : body_first.sl.r_2 c arg1 arg3 f1 f3 = posY (word (arg1.view.read (Elt F) f1)) (arg3.view.read (Elt F) f3) := by
    unfold body_first.sl.r_2 posY; simp only [View.readAt_eq_ld, View.ld_unit_zero (S := S60x4) zero2, View.ld_unit_zero (S := S220x128) zero2, View.ld_unit_zero (S := S16x128) zero2, View.ld_unit_zero (S := S8x128) zero2, View.ld_unit_zero (S := S220x512) zero2, View.ld_unit_zero (S := S512x720) zero2, View.ld_unit_zero (S := S512x360) zero2, View.ld_unit_zero (S := S1x2048) zero2, View.ld_unit_zero (S := S2048x2048) zero2, View.ld_unit_zero (S := S2048x3) zero2, View.ld_unit_zero (S := S1x3) zero2, View.ld_unit_zero (S := S60x2048) zero2]; rw [e]
  have e_3 : body_first.sl.r_3 c arg1 arg4 f1 f4 = velXY (word (arg1.view.read (Elt F) f1)) (arg4.view.read (Elt F) f4) := by
    unfold body_first.sl.r_3 velXY; simp only [View.readAt_eq_ld, View.ld_unit_zero (S := S60x4) zero2, View.ld_unit_zero (S := S220x128) zero2, View.ld_unit_zero (S := S16x128) zero2, View.ld_unit_zero (S := S8x128) zero2, View.ld_unit_zero (S := S220x512) zero2, View.ld_unit_zero (S := S512x720) zero2, View.ld_unit_zero (S := S512x360) zero2, View.ld_unit_zero (S := S1x2048) zero2, View.ld_unit_zero (S := S2048x2048) zero2, View.ld_unit_zero (S := S2048x3) zero2, View.ld_unit_zero (S := S1x3) zero2, View.ld_unit_zero (S := S60x2048) zero2]; rw [e]
  have e_5 : body_first.sl.r_5 c arg1 arg5 f1 f5 = yaw (word (arg1.view.read (Elt F) f1)) (arg5.view.read (Elt F) f5) := by
    unfold body_first.sl.r_5 yaw body_first.sl.r_4; simp only [View.readAt_eq_ld, View.ld_unit_zero (S := S60x4) zero2, View.ld_unit_zero (S := S220x128) zero2, View.ld_unit_zero (S := S16x128) zero2, View.ld_unit_zero (S := S8x128) zero2, View.ld_unit_zero (S := S220x512) zero2, View.ld_unit_zero (S := S512x720) zero2, View.ld_unit_zero (S := S512x360) zero2, View.ld_unit_zero (S := S1x2048) zero2, View.ld_unit_zero (S := S2048x2048) zero2, View.ld_unit_zero (S := S2048x3) zero2, View.ld_unit_zero (S := S1x3) zero2, View.ld_unit_zero (S := S60x2048) zero2]; rw [e]
  have e_6 : body_first.sl.r_6 c arg1 arg3 f1 f3 = orgX (word (arg1.view.read (Elt F) f1)) (arg3.view.read (Elt F) f3) := by
    unfold body_first.sl.r_6 orgX; rw [e_1]
  have e_7 : body_first.sl.r_7 c arg1 arg3 f1 f3 = orgY (word (arg1.view.read (Elt F) f1)) (arg3.view.read (Elt F) f3) := by
    unfold body_first.sl.r_7 orgY; rw [e_2]
  have e_8 : body_first.sl.r_8 c arg1 arg4 f1 f4 = velX (word (arg1.view.read (Elt F) f1)) (arg4.view.read (Elt F) f4) := by
    unfold body_first.sl.r_8 velX; rw [e_3]
  have e_9 : body_first.sl.r_9 c arg1 arg4 f1 f4 = velY (word (arg1.view.read (Elt F) f1)) (arg4.view.read (Elt F) f4) := by
    unfold body_first.sl.r_9 velY; rw [e_3]
  have e_10 : body_first.sl.r_10 c arg1 arg2 arg3 arg6 f1 f2 f3 f6 = enc (word (arg1.view.read (Elt F) f1)) (arg2.view.read (Elt F) f2) (arg3.view.read (Elt F) f3) (arg6.view.read (Elt F) f6) := by
    unfold body_first.sl.r_10 enc; simp only [View.readAt_eq_ld, View.ld_unit_zero (S := S60x4) zero2, View.ld_unit_zero (S := S220x128) zero2, View.ld_unit_zero (S := S16x128) zero2, View.ld_unit_zero (S := S8x128) zero2, View.ld_unit_zero (S := S220x512) zero2, View.ld_unit_zero (S := S512x720) zero2, View.ld_unit_zero (S := S512x360) zero2, View.ld_unit_zero (S := S1x2048) zero2, View.ld_unit_zero (S := S2048x2048) zero2, View.ld_unit_zero (S := S2048x3) zero2, View.ld_unit_zero (S := S1x3) zero2, View.ld_unit_zero (S := S60x2048) zero2]; rw [e_1, e_2]
  have e_11 : body_first.sl.r_11 c arg1 arg2 arg3 arg6 arg7 f1 f2 f3 f6 f7 = dec (word (arg1.view.read (Elt F) f1)) (arg2.view.read (Elt F) f2) (arg3.view.read (Elt F) f3) (arg6.view.read (Elt F) f6) (arg7.view.read (Elt F) f7) := by
    unfold body_first.sl.r_11 dec; simp only [View.readAt_eq_ld, View.ld_unit_zero (S := S60x4) zero2, View.ld_unit_zero (S := S220x128) zero2, View.ld_unit_zero (S := S16x128) zero2, View.ld_unit_zero (S := S8x128) zero2, View.ld_unit_zero (S := S220x512) zero2, View.ld_unit_zero (S := S512x720) zero2, View.ld_unit_zero (S := S512x360) zero2, View.ld_unit_zero (S := S1x2048) zero2, View.ld_unit_zero (S := S2048x2048) zero2, View.ld_unit_zero (S := S2048x3) zero2, View.ld_unit_zero (S := S1x3) zero2, View.ld_unit_zero (S := S60x2048) zero2]; rw [e_1, e_2]
  have e_13 : body_first.sl.r_13 c arg1 arg2 arg3 arg6 arg8 f1 f2 f3 f6 f8 = turn (word (arg1.view.read (Elt F) f1)) (arg2.view.read (Elt F) f2) (arg3.view.read (Elt F) f3) (arg6.view.read (Elt F) f6) (arg8.view.read (Elt F) f8) := by
    unfold body_first.sl.r_13 turn body_first.sl.r_12; simp only [View.readAt_eq_ld, View.ld_unit_zero (S := S60x4) zero2, View.ld_unit_zero (S := S220x128) zero2, View.ld_unit_zero (S := S16x128) zero2, View.ld_unit_zero (S := S8x128) zero2, View.ld_unit_zero (S := S220x512) zero2, View.ld_unit_zero (S := S512x720) zero2, View.ld_unit_zero (S := S512x360) zero2, View.ld_unit_zero (S := S1x2048) zero2, View.ld_unit_zero (S := S2048x2048) zero2, View.ld_unit_zero (S := S2048x3) zero2, View.ld_unit_zero (S := S1x3) zero2, View.ld_unit_zero (S := S60x2048) zero2]; rw [e_10]
  have e_18 : body_first.sl.r_18 c arg1 arg2 arg3 arg4 arg5 arg6 arg7 f1 f2 f3 f4 f5 f6 f7 = accX (word (arg1.view.read (Elt F) f1)) (arg2.view.read (Elt F) f2) (arg3.view.read (Elt F) f3) (arg4.view.read (Elt F) f4) (arg5.view.read (Elt F) f5) (arg6.view.read (Elt F) f6) (arg7.view.read (Elt F) f7) := by
    unfold body_first.sl.r_18 accX body_first.sl.r_16 body_first.sl.r_17 body_first.sl.v159 body_first.sl.cst_62; rw [e_5, e_6, e_8, e_11]
  have e_19 : body_first.sl.r_19 c arg1 arg2 arg3 arg4 arg5 arg6 arg7 f1 f2 f3 f4 f5 f6 f7 = accY (word (arg1.view.read (Elt F) f1)) (arg2.view.read (Elt F) f2) (arg3.view.read (Elt F) f3) (arg4.view.read (Elt F) f4) (arg5.view.read (Elt F) f5) (arg6.view.read (Elt F) f6) (arg7.view.read (Elt F) f7) := by
    unfold body_first.sl.r_19 accY body_first.sl.r_14 body_first.sl.r_15 body_first.sl.v159; rw [e_5, e_7, e_9, e_11]
  have e_20 : body_first.sl.r_20 c arg1 arg2 arg3 arg5 arg6 arg8 f1 f2 f3 f5 f6 f8 = k1_pay30 (yaw (word (arg1.view.read (Elt F) f1)) (arg5.view.read (Elt F) f5)) (turn (word (arg1.view.read (Elt F) f1)) (arg2.view.read (Elt F) f2) (arg3.view.read (Elt F) f3) (arg6.view.read (Elt F) f6) (arg8.view.read (Elt F) f8)) := by
    unfold body_first.sl.r_20 ; rw [e_5, e_13]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    unfold body_first.sl.H17_1
    rw [read_stored _ _ zero2, e_18, e_19, e_20]
    rfl
  iexists _; isplitr
  swap; · iexact H18
  ipureintro
  rw [read_stored _ _ zero2]
  unfold body_first.sl.v3 body_first.sl.v4 body_first.sl.v5 body_first.sl.v26 body_first.sl.H17_1 body_first.sl.H18_1
  rw [e_18, e_19, e_20]
  simp only [View.readAt_eq_ld, readCov_stored (S := S60x3) _ zero2, readCov_stored (S := S60x2048) _ zero2, View.ld_unit_zero (S := S60x4) zero2, View.ld_unit_zero (S := S220x128) zero2, View.ld_unit_zero (S := S16x128) zero2, View.ld_unit_zero (S := S8x128) zero2, View.ld_unit_zero (S := S220x512) zero2, View.ld_unit_zero (S := S512x720) zero2, View.ld_unit_zero (S := S512x360) zero2, View.ld_unit_zero (S := S1x2048) zero2, View.ld_unit_zero (S := S2048x2048) zero2, View.ld_unit_zero (S := S2048x3) zero2, View.ld_unit_zero (S := S1x3) zero2, View.ld_unit_zero (S := S60x2048) zero2]
  rfl

/-- The body at the grid's last point: the second chunk is added to the accumulator, and the results are stored. -/
theorem body_last (c : Dev nD) (E : Set ℕ) (i : grid1.Coords) (hi : (i 0).val = 1)
    (arg1 : Memref sig .tc .smem S1 .i32) (harg1 : arg1.IsWhole)
    (arg2 : Memref sig .tc .vmem S60x4 .f32) (harg2 : arg2.IsWhole)
    (arg3 : Memref sig .tc .vmem S220x128 .f32) (harg3 : arg3.IsWhole)
    (arg4 : Memref sig .tc .vmem S16x128 .f32) (harg4 : arg4.IsWhole)
    (arg5 : Memref sig .tc .vmem S8x128 .f32) (harg5 : arg5.IsWhole)
    (arg6 : Memref sig .tc .vmem S220x512 .f32) (harg6 : arg6.IsWhole)
    (arg7 : Memref sig .tc .vmem S512x720 .f32) (harg7 : arg7.IsWhole)
    (arg8 : Memref sig .tc .vmem S512x360 .f32) (harg8 : arg8.IsWhole)
    (arg9 : Memref sig .tc .vmem S3x2048 .f32) (harg9 : arg9.IsWhole)
    (arg10 : Memref sig .tc .vmem S1x2048 .f32) (harg10 : arg10.IsWhole)
    (arg11 : Memref sig .tc .vmem S2048x2048 .f32) (harg11 : arg11.IsWhole)
    (arg12 : Memref sig .tc .vmem S1x2048 .f32) (harg12 : arg12.IsWhole)
    (arg13 : Memref sig .tc .vmem S2048x3 .f32) (harg13 : arg13.IsWhole)
    (arg14 : Memref sig .tc .vmem S1x3 .f32) (harg14 : arg14.IsWhole)
    (arg15 : Memref sig .tc .vmem S60x3 .f32) (harg15 : arg15.IsWhole)
    (arg16 : Memref sig .tc .vmem S60x3 .f32) (harg16 : arg16.IsWhole)
    (arg17 : Memref sig .tc .vmem S60x3 .f32) (harg17 : arg17.IsWhole)
    (arg18 : Memref sig .tc .vmem S60x2048 .f32) (harg18 : arg18.IsWhole)
    (tb : Vec F S1 .i32) (x2 : Vec F S60x4 .f32) (x3 : Vec F S220x128 .f32) (x4 : Vec F S16x128 .f32) (x5 : Vec F S8x128 .f32) (x6 : Vec F S220x512 .f32) (x7 : Vec F S512x720 .f32) (x8 : Vec F S512x360 .f32) (x9 : Vec F S3x2048 .f32) (x10 : Vec F S1x2048 .f32) (x11 : Vec F S2048x2048 .f32) (x12 : Vec F S1x2048 .f32) (x13 : Vec F S2048x3 .f32) (x14 : Vec F S1x3 .f32) (a : Vec F S60x3 .f32) (s : Vec F S60x2048 .f32) (Q : PUnit → sProp 𝕄) :
    iprop(owns (c : Thread nD τ) arg1 fullShare tb
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ (∃ d, owns (c : Thread nD τ) arg15 fullShare d)
        ∗ (∃ d, owns (c : Thread nD τ) arg16 fullShare d)
        ∗ owns (c : Thread nD τ) arg17 fullShare a
        ∗ owns (c : Thread nD τ) arg18 fullShare s
        ∗ (iprop(owns (c : Thread nD τ) arg1 fullShare tb
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare (mean (chunk a x9 x10 x11 s) x12 x13 x14)
        ∗ owns (c : Thread nD τ) arg16 fullShare (spread (chunk a x9 x10 x11 s) x12 x13 x14)
        ∗ owns (c : Thread nD τ) arg17 fullShare a
        ∗ owns (c : Thread nD τ) arg18 fullShare (chunk a x9 x10 x11 s)) -∗ Q ⟨⟩))
      ⊢ wp frame (wpE (defs₀ (F := F)) Variants.none (c : Thread nD τ) none) E (cc1__policy_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by
  have h1 : ¬ Scalar.cmpi .ne (Scalar.extui (Scalar.cmpi .eq (BitVec.ofNat 32 (i 0).val) 0#32) : BitVec 32) 0#32 = 1#1 := by rw [hi]; decide
  have h2 : k1_cond2 i = 1#1 := by unfold k1_cond2; rw [hi]; decide
  simp only [cc1__policy_kernel_eq_skeleton]; unfold cc1__policy_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%f17, %hf17, H17⟩, ⟨%f18, %hf18, H18⟩, Hk⟩
  subst hf1 hf2 hf3 hf4 hf5 hf6 hf7 hf8 hf9 hf10 hf11 hf12 hf13 hf14 hf17 hf18
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_words
    rw [read_stored _ _ zero2]
    simp only [View.readAt_eq_ld, readCov_stored (S := S60x3) _ zero2, readCov_stored (S := S60x2048) _ zero2, View.ld_unit_zero (S := S60x4) zero2, View.ld_unit_zero (S := S220x128) zero2, View.ld_unit_zero (S := S16x128) zero2, View.ld_unit_zero (S := S8x128) zero2, View.ld_unit_zero (S := S220x512) zero2, View.ld_unit_zero (S := S512x720) zero2, View.ld_unit_zero (S := S512x360) zero2, View.ld_unit_zero (S := S1x2048) zero2, View.ld_unit_zero (S := S2048x2048) zero2, View.ld_unit_zero (S := S2048x3) zero2, View.ld_unit_zero (S := S1x3) zero2, View.ld_unit_zero (S := S60x2048) zero2]
    rfl
  isplitl [H16]
  · iexists _; isplitr
    swap; · iexact H16
    ipureintro
    sl_unfold_words
    rw [read_stored _ _ zero2]
    simp only [View.readAt_eq_ld, readCov_stored (S := S60x3) _ zero2, readCov_stored (S := S60x2048) _ zero2, View.ld_unit_zero (S := S60x4) zero2, View.ld_unit_zero (S := S220x128) zero2, View.ld_unit_zero (S := S16x128) zero2, View.ld_unit_zero (S := S8x128) zero2, View.ld_unit_zero (S := S220x512) zero2, View.ld_unit_zero (S := S512x720) zero2, View.ld_unit_zero (S := S512x360) zero2, View.ld_unit_zero (S := S1x2048) zero2, View.ld_unit_zero (S := S2048x2048) zero2, View.ld_unit_zero (S := S2048x3) zero2, View.ld_unit_zero (S := S1x3) zero2, View.ld_unit_zero (S := S60x2048) zero2]
    rfl
  isplitl [H17]
  · iexists f17; isplitr; · ipureintro; rfl
    iexact H17
  iexists _; isplitr
  swap; · iexact H18
  ipureintro
  sl_unfold_words
  rw [read_stored _ _ zero2]
  simp only [View.readAt_eq_ld, readCov_stored (S := S60x3) _ zero2, readCov_stored (S := S60x2048) _ zero2, View.ld_unit_zero (S := S60x4) zero2, View.ld_unit_zero (S := S220x128) zero2, View.ld_unit_zero (S := S16x128) zero2, View.ld_unit_zero (S := S8x128) zero2, View.ld_unit_zero (S := S220x512) zero2, View.ld_unit_zero (S := S512x720) zero2, View.ld_unit_zero (S := S512x360) zero2, View.ld_unit_zero (S := S1x2048) zero2, View.ld_unit_zero (S := S2048x2048) zero2, View.ld_unit_zero (S := S2048x3) zero2, View.ld_unit_zero (S := S1x3) zero2, View.ld_unit_zero (S := S60x2048) zero2]
  rfl

end Cert.Proof

end
-- ==== Proof.Region.lean ====
/-
  The TensorCore call: what its windows' buffers and its two scratch buffers hold at each of the grid's two points, and
  the body's run at each of them.
-/
module

public import proofs.«01_k».proof.Proof.Body
public import Idealize.ShloMosaic.Lib.Pipeline.Regions

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open Idealize.SL.BI.BIBase Idealize.SL.BI.Laws Idealize.SL.ProofMode Idealize.SL.Sem
open scoped Idealize.SL.BI
open Idealize.ShloMosaic.Rounds
open Idealize.ShloMosaic.Pipeline (Dat Cfg Window BodyObligation)

variable {F : FTy → Type} [FloatOps F]

local notation "𝕄" => MT nD τ sig (HIx 1) (Elt F) ℕ UU ℕ

-- the contents of the core's buffers when the call starts
variable (V : (c : Dev nD) → (b : Ref sig .tc) → Buf (Elt F) ((c : Thread nD τ).loc b))

/-- The prefetched table: the agent's number. -/
def tables : (p : Fin 1) → (pcfgs (F := F) p).Adm := fun _ => ⟨fun k => V 0 (pre1.ref k), trivial⟩

/-- The call with its table's contents chosen. -/
abbrev cfgV : Cfg sig Λ₀ := cfg1 (F := F) (tables V 0)

/-- A window's block of its array at a point. -/
def blk (c : Dev nD) (w : Fin 15) (t : Fin grid1.N) : ((cfgV V).win w).block.Idx → Elt F ((cfgV V).win w).elt :=
  (((cfgV V).win w).blk t).view.read (Elt F) (V c (Pipeline.arrRef spec1 w))

/-- The agent's number. -/
def num (c : Dev nD) : BitVec 32 := word (V c main_v0 : Vec F S1 .i32)

/-- The network's input, -/
def actV (c : Dev nD) : Vec F S60x3 .f32 :=
  act (num V c) (blk V c 0 t1_0) (blk V c 1 t1_0) (blk V c 2 t1_0) (blk V c 3 t1_0) (blk V c 4 t1_0) (blk V c 5 t1_0) (blk V c 6 t1_0)
/-- the second layer's sum after the first chunk of hidden units, -/
def sum0 (c : Dev nD) : Vec F S60x2048 .f32 := chunk (actV V c) (blk V c 7 t1_0) (blk V c 8 t1_0) (blk V c 9 t1_0) zeros
/-- and after both; -/
def sum1 (c : Dev nD) : Vec F S60x2048 .f32 := chunk (actV V c) (blk V c 7 t1_1) (blk V c 8 t1_1) (blk V c 9 t1_1) (sum0 V c)
/-- the results. -/
def meanV (c : Dev nD) : Vec F S60x3 .f32 := mean (sum1 V c) (blk V c 10 t1_1) (blk V c 11 t1_1) (blk V c 12 t1_1)
def spreadV (c : Dev nD) : Vec F S60x3 .f32 := spread (sum1 V c) (blk V c 10 t1_1) (blk V c 11 t1_1) (blk V c 12 t1_1)

/-- What a window's buffer holds once the body has run. -/
def afterV (c : Dev nD) (w : Fin 15) (t : Fin grid1.N) : ((cfgV V).win w).block.Idx → Elt F ((cfgV V).win w).elt :=
  match w with
  | ⟨13, _⟩ => meanV V c
  | ⟨14, _⟩ => spreadV V c
  | w => blk V c w t

/-- The scratch buffers between points: after the first, the network's input and the first chunk's sum. -/
def scratch (c : Dev nD) (n : ℕ) : sProp 𝕄 :=
  if n = 1 then iprop(owns (c : Thread nD τ) (Memref.whole cc1_scratch0) fullShare (actV V c)
    ∗ owns (c : Thread nD τ) (Memref.whole cc1_scratch1) fullShare (sum0 V c))
  else iprop((∃ d, owns (c : Thread nD τ) (Memref.whole cc1_scratch0) fullShare d)
    ∗ ∃ d, owns (c : Thread nD τ) (Memref.whole cc1_scratch1) fullShare d)

/-- The recorded waits: none above the SparseCore call's. -/
def recs (d : Dev nD) : Set (SemLoc sig × HIx 1) := {p | (K (F := F)).lev (SparseCore.T d, p.1) p.2 ≤ 8}

def dat (c : Dev nD) : Dat τ (Elt F) (HIx 1) ℕ UU ℕ (cfgV V) c where
  A w := V c (Pipeline.arrRef spec1 w)
  after w t := afterV V c w t
  Φ t := iprop(owns (c : Thread nD τ) (Memref.whole main_v0) fullShare (V c main_v0 : Vec F S1 .i32) ∗ scratch V c t.val)
  q _ := fullShare
  owed _ := 0
  recorded _ := recs (F := F) c

def pdats : (p : Fin 1) → (c : Dev nD) → Dat τ (Elt F) (HIx 1) ℕ UU ℕ (Pipeline.pin (pcfgs (F := F)) (tables V) p) c
  | ⟨0, _⟩ => fun c => dat V c

/-- An input window's buffer holds its block when the body runs. -/
theorem before_block (c : Dev nD) (w : Fin 15) (hw : w.val < 13) (t : Fin grid1.N) (d) : (dat V c).before w t d = blk V c w t := by
  obtain ⟨n, hn⟩ := w
  have hn' : n < 13 := hw
  interval_cases n <;>
    exact (dat V c).before_in_eq_fetched _ rfl (fun _ => rfl) (fun _ _ _ => rfl) (fun _ => rfl) t d

/-- The results' windows are idle at the first point, and the second writes them. -/
theorem idle_first : idle1 13 (grid1.coords t1_0) = true ∧ idle1 14 (grid1.coords t1_0) = true := by decide
theorem idle_last : idle1 13 (grid1.coords t1_1) = false ∧ idle1 14 (grid1.coords t1_1) = false := by decide
theorem idle_eq (w : Fin 15) (t : Fin grid1.N) : (cfgV V).idle w ((cfgV V).grid.coords t) = idle1 w (grid1.coords t) := by
  rfl
theorem flush13 : ((cfgV V).win 13).flush t1_0 = false :=
  show Pipeline.Window.flushOf grid1 true cc1_transform_13 t1_0 = false by decide
theorem flush14 : ((cfgV V).win 14).flush t1_0 = false :=
  show Pipeline.Window.flushOf grid1 true cc1_transform_14 t1_0 = false by decide

/-- The body at a point, as the body table has it. -/
theorem body_row (t : Fin grid1.N) (s : (w : Fin 15) → Fin (spec1 w).nbuf) :
    (defs₀ (F := F)) .tc (cfgV V).body ((cfgV V).bodyArgs t s)
      = cc1__policy_kernel (grid1.coords t) (Memref.whole main_v0) (Memref.isWhole_whole _) (spec1_0.stage (s 0)) (hstage1_0 ((s 0).cast nbuf1_0)) (spec1_1.stage (s 1)) (hstage1_1 ((s 1).cast nbuf1_1)) (spec1_2.stage (s 2)) (hstage1_2 ((s 2).cast nbuf1_2)) (spec1_3.stage (s 3)) (hstage1_3 ((s 3).cast nbuf1_3)) (spec1_4.stage (s 4)) (hstage1_4 ((s 4).cast nbuf1_4)) (spec1_5.stage (s 5)) (hstage1_5 ((s 5).cast nbuf1_5)) (spec1_6.stage (s 6)) (hstage1_6 ((s 6).cast nbuf1_6)) (spec1_7.stage (s 7)) (hstage1_7 ((s 7).cast nbuf1_7)) (spec1_8.stage (s 8)) (hstage1_8 ((s 8).cast nbuf1_8)) (spec1_9.stage (s 9)) (hstage1_9 ((s 9).cast nbuf1_9)) (spec1_10.stage (s 10)) (hstage1_10 ((s 10).cast nbuf1_10)) (spec1_11.stage (s 11)) (hstage1_11 ((s 11).cast nbuf1_11)) (spec1_12.stage (s 12)) (hstage1_12 ((s 12).cast nbuf1_12)) (spec1_13.stage (s 13)) (hstage1_13 ((s 13).cast nbuf1_13)) (spec1_14.stage (s 14)) (hstage1_14 ((s 14).cast nbuf1_14))
          (Memref.whole cc1_scratch0) (Memref.isWhole_whole _) (Memref.whole cc1_scratch1) (Memref.isWhole_whole _) := rfl

theorem phi_first (c : Dev nD) : (dat V c).Φ t1_0.castSucc
    = iprop(owns (c : Thread nD τ) (Memref.whole main_v0) fullShare (V c main_v0 : Vec F S1 .i32)
      ∗ (∃ d, owns (c : Thread nD τ) (Memref.whole cc1_scratch0) fullShare d)
      ∗ ∃ d, owns (c : Thread nD τ) (Memref.whole cc1_scratch1) fullShare d) := rfl
theorem phi_mid (c : Dev nD) : (dat V c).Φ t1_0.succ
    = iprop(owns (c : Thread nD τ) (Memref.whole main_v0) fullShare (V c main_v0 : Vec F S1 .i32)
      ∗ owns (c : Thread nD τ) (Memref.whole cc1_scratch0) fullShare (actV V c)
      ∗ owns (c : Thread nD τ) (Memref.whole cc1_scratch1) fullShare (sum0 V c)) := rfl
theorem phi_mid' (c : Dev nD) : (dat V c).Φ t1_1.castSucc = (dat V c).Φ t1_0.succ := rfl
theorem phi_last (c : Dev nD) : (dat V c).Φ t1_1.succ
    = iprop(owns (c : Thread nD τ) (Memref.whole main_v0) fullShare (V c main_v0 : Vec F S1 .i32)
      ∗ (∃ d, owns (c : Thread nD τ) (Memref.whole cc1_scratch0) fullShare d)
      ∗ ∃ d, owns (c : Thread nD τ) (Memref.whole cc1_scratch1) fullShare d) := rfl

/-- A window's current buffer at a point, and what the body is handed of it and hands back. -/
abbrev stg (t : Fin grid1.N) (w : Fin 15) := ((cfgV V).win w).stage ((cfgV V).slots t w)

def pre (c : Dev nD) (t : Fin grid1.N) (w : Fin 15) : sProp 𝕄 :=
  iprop(∃ d, owns (c : Thread nD τ) (stg V t w) fullShare ((dat V c).before w t d))
def post (c : Dev nD) (t : Fin grid1.N) (w : Fin 15) : sProp 𝕄 :=
  match (cfgV V).idle w ((cfgV V).grid.coords t) with
  | true =>
    match ((cfgV V).win w).flush t with
    | false => iprop(∃ d, owns (c : Thread nD τ) (stg V t w) fullShare ((dat V c).before w t d))
    | true => owns (c : Thread nD τ) (stg V t w) fullShare ((dat V c).after w t)
  | false => owns (c : Thread nD τ) (stg V t w) fullShare ((dat V c).after w t)

theorem pre_in (c : Dev nD) (t : Fin grid1.N) (w : Fin 15) (hw : w.val < 13) :
    pre V c t w ⊢ owns (c : Thread nD τ) (stg V t w) fullShare (blk V c w t) := by
  unfold pre; iintro ⟨%d, H⟩
  rw [before_block V c w hw]
  iexact H
theorem pre_out (c : Dev nD) (t : Fin grid1.N) (w : Fin 15) :
    pre V c t w ⊢ iprop(∃ d, owns (c : Thread nD τ) (stg V t w) fullShare d) := by
  unfold pre; iintro ⟨%d, H⟩
  iexists _; iexact H
theorem post_in (c : Dev nD) (t : Fin grid1.N) (w : Fin 15) (hw : w.val < 13) :
    owns (c : Thread nD τ) (stg V t w) fullShare (blk V c w t) ⊢ post V c t w := by
  obtain ⟨n, hn⟩ := w
  have hn' : n < 13 := hw
  interval_cases n <;> exact .rfl
theorem post_idle (c : Dev nD) (t : Fin grid1.N) (w : Fin 15) (h1 : (cfgV V).idle w ((cfgV V).grid.coords t) = true)
    (h2 : ((cfgV V).win w).flush t = false) : post V c t w = pre V c t w := by
  unfold post pre; rw [h1, h2]
theorem post_live (c : Dev nD) (t : Fin grid1.N) (w : Fin 15) (h1 : (cfgV V).idle w ((cfgV V).grid.coords t) = false) :
    post V c t w = owns (c : Thread nD τ) (stg V t w) fullShare ((dat V c).after w t) := by
  unfold post; rw [h1]

/-- The thirteen inputs' buffers, at their blocks. -/
abbrev ins (c : Dev nD) (t : Fin grid1.N) (R : sProp 𝕄) : sProp 𝕄 :=
  iprop(owns (c : Thread nD τ) (stg V t 0) fullShare (blk V c 0 t) ∗ owns (c : Thread nD τ) (stg V t 1) fullShare (blk V c 1 t) ∗ owns (c : Thread nD τ) (stg V t 2) fullShare (blk V c 2 t) ∗ owns (c : Thread nD τ) (stg V t 3) fullShare (blk V c 3 t) ∗ owns (c : Thread nD τ) (stg V t 4) fullShare (blk V c 4 t) ∗ owns (c : Thread nD τ) (stg V t 5) fullShare (blk V c 5 t) ∗ owns (c : Thread nD τ) (stg V t 6) fullShare (blk V c 6 t) ∗ owns (c : Thread nD τ) (stg V t 7) fullShare (blk V c 7 t) ∗ owns (c : Thread nD τ) (stg V t 8) fullShare (blk V c 8 t) ∗ owns (c : Thread nD τ) (stg V t 9) fullShare (blk V c 9 t) ∗ owns (c : Thread nD τ) (stg V t 10) fullShare (blk V c 10 t) ∗ owns (c : Thread nD τ) (stg V t 11) fullShare (blk V c 11 t) ∗ owns (c : Thread nD τ) (stg V t 12) fullShare (blk V c 12 t) ∗ R)

theorem pre_all (c : Dev nD) (t : Fin grid1.N) : bigSep Finset.univ (pre V c t) ⊢ ins V c t iprop(pre V c t 13 ∗ pre V c t 14) := by
  rw [bigSep_W1]
  exact BIClass.sep_mono (pre_in V c t 0 (by decide)) (BIClass.sep_mono (pre_in V c t 1 (by decide)) (BIClass.sep_mono (pre_in V c t 2 (by decide)) (BIClass.sep_mono (pre_in V c t 3 (by decide)) (BIClass.sep_mono (pre_in V c t 4 (by decide)) (BIClass.sep_mono (pre_in V c t 5 (by decide)) (BIClass.sep_mono (pre_in V c t 6 (by decide)) (BIClass.sep_mono (pre_in V c t 7 (by decide)) (BIClass.sep_mono (pre_in V c t 8 (by decide)) (BIClass.sep_mono (pre_in V c t 9 (by decide)) (BIClass.sep_mono (pre_in V c t 10 (by decide)) (BIClass.sep_mono (pre_in V c t 11 (by decide)) (BIClass.sep_mono (pre_in V c t 12 (by decide)) (.rfl)))))))))))))
theorem post_all (c : Dev nD) (t : Fin grid1.N) : ins V c t iprop(post V c t 13 ∗ post V c t 14) ⊢ bigSep Finset.univ (post V c t) := by
  rw [bigSep_W1]
  exact BIClass.sep_mono (post_in V c t 0 (by decide)) (BIClass.sep_mono (post_in V c t 1 (by decide)) (BIClass.sep_mono (post_in V c t 2 (by decide)) (BIClass.sep_mono (post_in V c t 3 (by decide)) (BIClass.sep_mono (post_in V c t 4 (by decide)) (BIClass.sep_mono (post_in V c t 5 (by decide)) (BIClass.sep_mono (post_in V c t 6 (by decide)) (BIClass.sep_mono (post_in V c t 7 (by decide)) (BIClass.sep_mono (post_in V c t 8 (by decide)) (BIClass.sep_mono (post_in V c t 9 (by decide)) (BIClass.sep_mono (post_in V c t 10 (by decide)) (BIClass.sep_mono (post_in V c t 11 (by decide)) (BIClass.sep_mono (post_in V c t 12 (by decide)) (.rfl)))))))))))))

theorem body_at (c : Dev nD) (t : Fin grid1.N) :
    iprop((dat V c).Φ t.castSucc ∗ (dat V c).owesAt none t.castSucc ∗ bigSep Finset.univ (pre V c t))
      ⊢ wp frame (wpE (defs₀ (F := F)) Variants.none (c : Thread nD τ) none) Set.univ
          (cc1__policy_kernel (grid1.coords t) (Memref.whole main_v0) (Memref.isWhole_whole _) (spec1_0.stage ((cfgV V).slots t 0)) (hstage1_0 (((cfgV V).slots t 0).cast nbuf1_0)) (spec1_1.stage ((cfgV V).slots t 1)) (hstage1_1 (((cfgV V).slots t 1).cast nbuf1_1)) (spec1_2.stage ((cfgV V).slots t 2)) (hstage1_2 (((cfgV V).slots t 2).cast nbuf1_2)) (spec1_3.stage ((cfgV V).slots t 3)) (hstage1_3 (((cfgV V).slots t 3).cast nbuf1_3)) (spec1_4.stage ((cfgV V).slots t 4)) (hstage1_4 (((cfgV V).slots t 4).cast nbuf1_4)) (spec1_5.stage ((cfgV V).slots t 5)) (hstage1_5 (((cfgV V).slots t 5).cast nbuf1_5)) (spec1_6.stage ((cfgV V).slots t 6)) (hstage1_6 (((cfgV V).slots t 6).cast nbuf1_6)) (spec1_7.stage ((cfgV V).slots t 7)) (hstage1_7 (((cfgV V).slots t 7).cast nbuf1_7)) (spec1_8.stage ((cfgV V).slots t 8)) (hstage1_8 (((cfgV V).slots t 8).cast nbuf1_8)) (spec1_9.stage ((cfgV V).slots t 9)) (hstage1_9 (((cfgV V).slots t 9).cast nbuf1_9)) (spec1_10.stage ((cfgV V).slots t 10)) (hstage1_10 (((cfgV V).slots t 10).cast nbuf1_10)) (spec1_11.stage ((cfgV V).slots t 11)) (hstage1_11 (((cfgV V).slots t 11).cast nbuf1_11)) (spec1_12.stage ((cfgV V).slots t 12)) (hstage1_12 (((cfgV V).slots t 12).cast nbuf1_12)) (spec1_13.stage ((cfgV V).slots t 13)) (hstage1_13 (((cfgV V).slots t 13).cast nbuf1_13)) (spec1_14.stage ((cfgV V).slots t 14)) (hstage1_14 (((cfgV V).slots t 14).cast nbuf1_14))
          (Memref.whole cc1_scratch0) (Memref.isWhole_whole _) (Memref.whole cc1_scratch1) (Memref.isWhole_whole _))
          fun _ => iprop((dat V c).Φ t.succ ∗ (dat V c).owesAt none t.succ ∗ bigSep Finset.univ (post V c t)) := by
  rcases fin_N1 t with rfl | rfl
  · refine (BIClass.sep_mono (Entails.of_eq (phi_first V c)) (BIClass.sep_mono .rfl (pre_all V c t1_0))).trans ?_
    unfold pre
    iintro ⟨⟨Ht, Hs0, Hs1⟩, HO, H0, H1, H2, H3, H4, H5, H6, H7, H8, H9, H10, H11, H12, ⟨%d13, H13⟩, ⟨%d14, H14⟩⟩
    iapply (body_first c Set.univ (grid1.coords t1_0) (by decide))
    isplitl [Ht]; · iexact Ht
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [Hs0]; · iexact Hs0
    isplitl [Hs1]; · iexact Hs1
    iintro ⟨Ht, H0, H1, H2, H3, H4, H5, H6, H7, H8, H9, H10, H11, H12, H13, H14, Hs0, Hs1⟩
    isplitl [Ht Hs0 Hs1]
    · rw [phi_mid]; isplitl [Ht]; · iexact Ht
      isplitl [Hs0]; · iexact Hs0
      iexact Hs1
    isplitl [HO]; · iexact HO
    iapply (post_all V c t1_0)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    rw [post_idle V c t1_0 13 ((idle_eq V _ _).trans idle_first.1) (flush13 V), post_idle V c t1_0 14 ((idle_eq V _ _).trans idle_first.2) (flush14 V)]; unfold pre
    isplitl [H13]
    · iexists d13; iexact H13
    · iexists d14; iexact H14
  · refine (BIClass.sep_mono (Entails.of_eq ((phi_mid' V c).trans (phi_mid V c))) (BIClass.sep_mono .rfl (pre_all V c t1_1))).trans ?_
    unfold pre
    iintro ⟨⟨Ht, Hs0, Hs1⟩, HO, H0, H1, H2, H3, H4, H5, H6, H7, H8, H9, H10, H11, H12, ⟨%d13, H13⟩, ⟨%d14, H14⟩⟩
    iapply (body_last c Set.univ (grid1.coords t1_1) (by decide))
    isplitl [Ht]; · iexact Ht
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [Hs0]; · iexact Hs0
    isplitl [Hs1]; · iexact Hs1
    iintro ⟨Ht, H0, H1, H2, H3, H4, H5, H6, H7, H8, H9, H10, H11, H12, H13, H14, Hs0, Hs1⟩
    isplitl [Ht Hs0 Hs1]
    · rw [phi_last]; isplitl [Ht]; · iexact Ht
      isplitl [Hs0]
      · iexists _; iexact Hs0
      · iexists _; iexact Hs1
    isplitl [HO]; · iexact HO
    iapply (post_all V c t1_1)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    rw [post_live V c t1_1 13 ((idle_eq V _ _).trans idle_last.1), post_live V c t1_1 14 ((idle_eq V _ _).trans idle_last.2)]
    isplitl [H13]; · iexact H13
    iexact H14

/-- The library's body obligation of the call. -/
theorem body_obligation (c : Dev nD) : BodyObligation (dat V c) (defs₀ (F := F)) Variants.none none Set.univ := fun t =>
  triple_restated (body_at V c t) rfl .rfl fun _ => .rfl

end Cert.Proof

end
-- ==== Proof.Blocks.lean ====
/-
  The blocks of the TensorCore call's windows: a window whose block is its whole array reads the array, the weights'
  windows read one half of theirs at each grid point.
-/
module

public import proofs.«01_k».proof.Proof.Region
public import Idealize.ShloMosaic.Lib.Pipeline.Value

@[expose] public section

noncomputable section

namespace Cert.Proof

open Cert.KernelIdeal Cert.KernelIdeal.Gen

open Idealize.ShloMosaic Idealize.ShloMosaic.TcCoe
open Idealize.SL Idealize.SL.RA Idealize.SL.BI
open Idealize.ShloMosaic.ValueIdx
open Idealize.ShloMosaic.Pipeline (Dat Cfg Window)

variable {F : FTy → Type} [FloatOps F]

variable (V : (c : Dev nD) → (b : Ref sig .tc) → Buf (Elt F) ((c : Thread nD τ).loc b))

/-! ## Windows over whole arrays -/

theorem zero_0 : ∀ (t : Fin grid1.N) a, cc1_transform_0 (grid1.coords t) a = 0 := by decide
theorem blk_0 (c : Dev nD) (t : Fin grid1.N) : blk V c 0 t = V c main_arg0 := by
  funext y
  show V c main_arg0 ((((cfgV V).win 0).rect t).emb y) = V c main_arg0 y
  congr 1
  funext a; apply Fin.ext
  exact ((cfgV V).win 0).rect_emb_val_of_index_zero t a (zero_0 t a) y

theorem zero_1 : ∀ (t : Fin grid1.N) a, cc1_transform_1 (grid1.coords t) a = 0 := by decide
theorem blk_1 (c : Dev nD) (t : Fin grid1.N) : blk V c 1 t = V c main_v9 := by
  funext y
  show V c main_v9 ((((cfgV V).win 1).rect t).emb y) = V c main_v9 y
  congr 1
  funext a; apply Fin.ext
  exact ((cfgV V).win 1).rect_emb_val_of_index_zero t a (zero_1 t a) y

theorem zero_2 : ∀ (t : Fin grid1.N) a, cc1_transform_2 (grid1.coords t) a = 0 := by decide
theorem blk_2 (c : Dev nD) (t : Fin grid1.N) : blk V c 2 t = V c main_v10 := by
  funext y
  show V c main_v10 ((((cfgV V).win 2).rect t).emb y) = V c main_v10 y
  congr 1
  funext a; apply Fin.ext
  exact ((cfgV V).win 2).rect_emb_val_of_index_zero t a (zero_2 t a) y

theorem zero_3 : ∀ (t : Fin grid1.N) a, cc1_transform_3 (grid1.coords t) a = 0 := by decide
theorem blk_3 (c : Dev nD) (t : Fin grid1.N) : blk V c 3 t = V c main_v8_2 := by
  funext y
  show V c main_v8_2 ((((cfgV V).win 3).rect t).emb y) = V c main_v8_2 y
  congr 1
  funext a; apply Fin.ext
  exact ((cfgV V).win 3).rect_emb_val_of_index_zero t a (zero_3 t a) y

theorem zero_4 : ∀ (t : Fin grid1.N) a, cc1_transform_4 (grid1.coords t) a = 0 := by decide
theorem blk_4 (c : Dev nD) (t : Fin grid1.N) : blk V c 4 t = V c main_arg6 := by
  funext y
  show V c main_arg6 ((((cfgV V).win 4).rect t).emb y) = V c main_arg6 y
  congr 1
  funext a; apply Fin.ext
  exact ((cfgV V).win 4).rect_emb_val_of_index_zero t a (zero_4 t a) y

theorem zero_5 : ∀ (t : Fin grid1.N) a, cc1_transform_5 (grid1.coords t) a = 0 := by decide
theorem blk_5 (c : Dev nD) (t : Fin grid1.N) : blk V c 5 t = V c main_arg7 := by
  funext y
  show V c main_arg7 ((((cfgV V).win 5).rect t).emb y) = V c main_arg7 y
  congr 1
  funext a; apply Fin.ext
  exact ((cfgV V).win 5).rect_emb_val_of_index_zero t a (zero_5 t a) y

theorem zero_6 : ∀ (t : Fin grid1.N) a, cc1_transform_6 (grid1.coords t) a = 0 := by decide
theorem blk_6 (c : Dev nD) (t : Fin grid1.N) : blk V c 6 t = V c main_arg8 := by
  funext y
  show V c main_arg8 ((((cfgV V).win 6).rect t).emb y) = V c main_arg8 y
  congr 1
  funext a; apply Fin.ext
  exact ((cfgV V).win 6).rect_emb_val_of_index_zero t a (zero_6 t a) y

theorem zero_10 : ∀ (t : Fin grid1.N) a, cc1_transform_10 (grid1.coords t) a = 0 := by decide
theorem blk_10 (c : Dev nD) (t : Fin grid1.N) : blk V c 10 t = V c main_v12 := by
  funext y
  show V c main_v12 ((((cfgV V).win 10).rect t).emb y) = V c main_v12 y
  congr 1
  funext a; apply Fin.ext
  exact ((cfgV V).win 10).rect_emb_val_of_index_zero t a (zero_10 t a) y

theorem zero_11 : ∀ (t : Fin grid1.N) a, cc1_transform_11 (grid1.coords t) a = 0 := by decide
theorem blk_11 (c : Dev nD) (t : Fin grid1.N) : blk V c 11 t = V c main_arg13 := by
  funext y
  show V c main_arg13 ((((cfgV V).win 11).rect t).emb y) = V c main_arg13 y
  congr 1
  funext a; apply Fin.ext
  exact ((cfgV V).win 11).rect_emb_val_of_index_zero t a (zero_11 t a) y

theorem zero_12 : ∀ (t : Fin grid1.N) a, cc1_transform_12 (grid1.coords t) a = 0 := by decide
theorem blk_12 (c : Dev nD) (t : Fin grid1.N) : blk V c 12 t = V c main_v13 := by
  funext y
  show V c main_v13 ((((cfgV V).win 12).rect t).emb y) = V c main_v13 y
  congr 1
  funext a; apply Fin.ext
  exact ((cfgV V).win 12).rect_emb_val_of_index_zero t a (zero_12 t a) y

/-! ## The weights' windows: one half at each point -/

theorem index_7 : ∀ (t : Fin grid1.N), cc1_transform_7 (grid1.coords t) = ![0, t.val] := by decide
theorem index_8 : ∀ (t : Fin grid1.N), cc1_transform_8 (grid1.coords t) = ![0, t.val] := by decide
theorem index_9 : ∀ (t : Fin grid1.N), cc1_transform_9 (grid1.coords t) = ![t.val, 0] := by decide

theorem blk_7 (c : Dev nD) (t : Fin grid1.N) (k : Fin 3) (j : Fin 2048) (hj : t.val * 2048 + j.val < 4096) :
    blk V c 7 t (ix2 k j) = V c main_arg9 (ix2 k (⟨t.val * 2048 + j.val, hj⟩ : Fin 4096)) := by
  show V c main_arg9 ((((cfgV V).win 7).rect t).emb (ix2 k j)) = _
  congr 1
  funext a; apply Fin.ext
  refine (((cfgV V).win 7).rect_emb_val t (ix2 k j) a).trans ?_
  show cc1_transform_7 (grid1.coords t) a * _ + _ = _
  rw [index_7]
  match a with
  | ⟨0, _⟩ => show 0 * 3 + k.val = k.val; omega
  | ⟨1, _⟩ => rfl
theorem blk_8 (c : Dev nD) (t : Fin grid1.N) (k : Fin 1) (j : Fin 2048) (hj : t.val * 2048 + j.val < 4096) :
    blk V c 8 t (ix2 k j) = V c main_v11 (ix2 k (⟨t.val * 2048 + j.val, hj⟩ : Fin 4096)) := by
  show V c main_v11 ((((cfgV V).win 8).rect t).emb (ix2 k j)) = _
  congr 1
  funext a; apply Fin.ext
  refine (((cfgV V).win 8).rect_emb_val t (ix2 k j) a).trans ?_
  show cc1_transform_8 (grid1.coords t) a * _ + _ = _
  rw [index_8]
  match a with
  | ⟨0, _⟩ => show 0 * 1 + k.val = k.val; omega
  | ⟨1, _⟩ => rfl
theorem blk_9 (c : Dev nD) (t : Fin grid1.N) (k : Fin 2048) (j : Fin 2048) (hk : t.val * 2048 + k.val < 4096) :
    blk V c 9 t (ix2 k j) = V c main_arg11 (ix2 (⟨t.val * 2048 + k.val, hk⟩ : Fin 4096) j) := by
  show V c main_arg11 ((((cfgV V).win 9).rect t).emb (ix2 k j)) = _
  congr 1
  funext a; apply Fin.ext
  refine (((cfgV V).win 9).rect_emb_val t (ix2 k j) a).trans ?_
  show cc1_transform_9 (grid1.coords t) a * _ + _ = _
  rw [index_9]
  match a with
  | ⟨0, _⟩ => rfl
  | ⟨1, _⟩ => show 0 * 2048 + j.val = j.val; omega

/-! ## The results' arrays at the end -/

theorem zero_13 : ∀ (t : Fin grid1.N) a, cc1_transform_13 (grid1.coords t) a = 0 := by decide
theorem flush13_last : ((cfgV V).win 13).flush t1_1 = true :=
  show Pipeline.Window.flushOf grid1 true cc1_transform_13 t1_1 = true by decide
theorem flushed_mean (c : Dev nD) : (dat V c).flushed 13 t1_1 = (((cfgV V).win 13).blk t1_1).view.read (Elt F) (meanV V c) := by
  show ((cfgV V).win 13).cut (grid1.coords t1_1) (meanV V c) = _
  funext y
  show meanV V c _ = meanV V c ((((cfgV V).win 13).rect t1_1).emb y)
  congr 1
  funext a; apply Fin.ext
  exact (((cfgV V).win 13).rect_emb_val_of_index_zero t1_1 a (zero_13 t1_1 a) y).symm
theorem cover13 (i : S60x3.Idx) : i ∈ (((cfgV V).win 13).blk t1_1).view.set := by
  have e : (((cfgV V).win 13).blk t1_1).view.emb i = i := by
    funext a; apply Fin.ext
    exact ((cfgV V).win 13).rect_emb_val_of_index_zero t1_1 a (zero_13 t1_1 a) i
  exact e ▸ (((cfgV V).win 13).blk t1_1).view.emb_mem_set i
/-- The result's array ends holding what the last point computed. -/
theorem arr_mean (c : Dev nD) : (dat V c).arrAt 13 (cfgV V).N = meanV V c := by
  refine (dat V c).arrAt_eq_of_cover 13 (meanV V c) (fun t ht => ?_) (fun i => ⟨t1_1, flush13_last V, cover13 V i⟩)
  rcases fin_N1 t with rfl | rfl
  · rw [flush13 V] at ht; exact absurd ht (by decide)
  · exact flushed_mean V c

theorem zero_14 : ∀ (t : Fin grid1.N) a, cc1_transform_14 (grid1.coords t) a = 0 := by decide
theorem flush14_last : ((cfgV V).win 14).flush t1_1 = true :=
  show Pipeline.Window.flushOf grid1 true cc1_transform_14 t1_1 = true by decide
theorem flushed_spread (c : Dev nD) : (dat V c).flushed 14 t1_1 = (((cfgV V).win 14).blk t1_1).view.read (Elt F) (spreadV V c) := by
  show ((cfgV V).win 14).cut (grid1.coords t1_1) (spreadV V c) = _
  funext y
  show spreadV V c _ = spreadV V c ((((cfgV V).win 14).rect t1_1).emb y)
  congr 1
  funext a; apply Fin.ext
  exact (((cfgV V).win 14).rect_emb_val_of_index_zero t1_1 a (zero_14 t1_1 a) y).symm
theorem cover14 (i : S60x3.Idx) : i ∈ (((cfgV V).win 14).blk t1_1).view.set := by
  have e : (((cfgV V).win 14).blk t1_1).view.emb i = i := by
    funext a; apply Fin.ext
    exact ((cfgV V).win 14).rect_emb_val_of_index_zero t1_1 a (zero_14 t1_1 a) i
  exact e ▸ (((cfgV V).win 14).blk t1_1).view.emb_mem_set i
/-- The result's array ends holding what the last point computed. -/
theorem arr_spread (c : Dev nD) : (dat V c).arrAt 14 (cfgV V).N = spreadV V c := by
  refine (dat V c).arrAt_eq_of_cover 14 (spreadV V c) (fun t ht => ?_) (fun i => ⟨t1_1, flush14_last V, cover14 V i⟩)
  rcases fin_N1 t with rfl | rfl
  · rw [flush14 V] at ht; exact absurd ht (by decide)
  · exact flushed_spread V c

end Cert.Proof

end
-- ==== Proof.Segment.lean ====
/-
  The TensorCore call as a step of the host program: entered with every buffer of the host program at one valuation,
  left with the two results at what the second grid point computed and every other buffer as it was.
-/
module

public import proofs.«01_k».proof.Proof.Blocks
public import Idealize.ShloMosaic.Lib.Pipeline.RegionsLoop

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open Idealize.SL.BI.BIBase Idealize.SL.BI.Laws Idealize.SL.ProofMode Idealize.SL.Sem
open scoped Idealize.SL.BI
open Idealize.ShloMosaic.Rounds
open Idealize.ShloMosaic.Pipeline (Dat Cfg Window BodyObligation)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The call -/

abbrev L : GSem nD τ sig → Finset (HIx 1) := fun _ => ∅
abbrev lv : GSem nD τ sig → HIx 1 → ℕ := fun _ _ => 0

/-- The core's debts: none, and no wait recorded above the SparseCore call's. -/
def debts (c : Dev nD) : sProp 𝕄 :=
  iprop(∃ W, ⌜(K (F := F)).WBelow (SparseCore.T c) W 8⌝ ∗ owes (SparseCore.T c) (0 : CellTallies nD τ sig (HIx 1)) W)

variable (Vp : (c : Dev nD) → (b : Ref sig .tc) → Buf (Elt F) ((c : Thread nD τ).loc b))

theorem device (c : Dev nD) : c = 0 := Subsingleton.elim _ _

/-- Every window's array at the end, at a valuation that has the results and is otherwise unchanged. -/
theorem arrays_end (c : Dev nD) (h0 : Vp c main_v14_0 = meanV V c) (h1 : Vp c main_v14_1 = spreadV V c)
    (hn : ∀ b : Ref sig .tc, b ≠ main_v14_0 → b ≠ main_v14_1 → Vp c b = V c b) :
    ∀ w : Fin 15, (dat V c).arrAt w (cfgV V).N = Vp c (Pipeline.arrRef spec1 w)
  | ⟨0, _⟩ => ((dat V c).arrAt_in 0 rfl _).trans (hn main_arg0 (by decide) (by decide)).symm
  | ⟨1, _⟩ => ((dat V c).arrAt_in 1 rfl _).trans (hn main_v9 (by decide) (by decide)).symm
  | ⟨2, _⟩ => ((dat V c).arrAt_in 2 rfl _).trans (hn main_v10 (by decide) (by decide)).symm
  | ⟨3, _⟩ => ((dat V c).arrAt_in 3 rfl _).trans (hn main_v8_2 (by decide) (by decide)).symm
  | ⟨4, _⟩ => ((dat V c).arrAt_in 4 rfl _).trans (hn main_arg6 (by decide) (by decide)).symm
  | ⟨5, _⟩ => ((dat V c).arrAt_in 5 rfl _).trans (hn main_arg7 (by decide) (by decide)).symm
  | ⟨6, _⟩ => ((dat V c).arrAt_in 6 rfl _).trans (hn main_arg8 (by decide) (by decide)).symm
  | ⟨7, _⟩ => ((dat V c).arrAt_in 7 rfl _).trans (hn main_arg9 (by decide) (by decide)).symm
  | ⟨8, _⟩ => ((dat V c).arrAt_in 8 rfl _).trans (hn main_v11 (by decide) (by decide)).symm
  | ⟨9, _⟩ => ((dat V c).arrAt_in 9 rfl _).trans (hn main_arg11 (by decide) (by decide)).symm
  | ⟨10, _⟩ => ((dat V c).arrAt_in 10 rfl _).trans (hn main_v12 (by decide) (by decide)).symm
  | ⟨11, _⟩ => ((dat V c).arrAt_in 11 rfl _).trans (hn main_arg13 (by decide) (by decide)).symm
  | ⟨12, _⟩ => ((dat V c).arrAt_in 12 rfl _).trans (hn main_v13 (by decide) (by decide)).symm
  | ⟨13, _⟩ => (arr_mean V c).trans h0.symm
  | ⟨14, _⟩ => (arr_spread V c).trans h1.symm

theorem phi_start (c : Dev nD) : (pdats V 0 c).Φ 0
    = iprop(owns (c : Thread nD τ) (Memref.whole main_v0) fullShare (V c main_v0 : Vec F S1 .i32)
      ∗ (∃ d, owns (c : Thread nD τ) (Memref.whole cc1_scratch0) fullShare d)
      ∗ ∃ d, owns (c : Thread nD τ) (Memref.whole cc1_scratch1) fullShare d) := rfl
theorem phi_end (c : Dev nD) : (pdats V 0 c).Φ (Fin.last _)
    = iprop(owns (c : Thread nD τ) (Memref.whole main_v0) fullShare (V c main_v0 : Vec F S1 .i32)
      ∗ (∃ d, owns (c : Thread nD τ) (Memref.whole cc1_scratch0) fullShare d)
      ∗ ∃ d, owns (c : Thread nD τ) (Memref.whole cc1_scratch1) fullShare d) := rfl

theorem owns_whole_exists (c : Dev nD) (b : Ref sig .tc) :
    (iprop(∃ d, owns (c : Thread nD τ) (Memref.whole b) fullShare d) : sProp 𝕄)
      = iprop(∃ f : Buf (Elt F) ((c : Thread nD τ).loc b), ((c : Thread nD τ).loc b) ↦{fullShare} f) := by
  have h1 : (iprop(∃ d, owns (c : Thread nD τ) (Memref.whole b) fullShare d) : sProp 𝕄)
      ⊢ iprop(∃ f : Buf (Elt F) ((c : Thread nD τ).loc b), ((c : Thread nD τ).loc b) ↦{fullShare} f) := by
    simp only [owns_whole_eq]
    iintro ⟨%d, %f, -, H⟩
    iexists f; iexact H
  have h2 : (iprop(∃ f : Buf (Elt F) ((c : Thread nD τ).loc b), ((c : Thread nD τ).loc b) ↦{fullShare} f) : sProp 𝕄)
      ⊢ iprop(∃ d, owns (c : Thread nD τ) (Memref.whole b) fullShare d) := by
    simp only [owns_whole_eq]
    iintro ⟨%f, H⟩
    iexists f, f; isplitr; · ipureintro; rfl
    iexact H
  exact BI.Entails.antisymm h1 h2

/-- The table, as the call takes it. -/
theorem table_held (c : Dev nD) : (Pipeline.prefHeld pre1 c (fun _ => fullShare) (fun k => V c (pre1.ref k)) : sProp 𝕄)
    = ((c : Thread nD τ).loc main_v0 ↦{fullShare} V c main_v0) := by
  unfold Pipeline.prefHeld
  exact bigSep_univ_of_subsingleton (0 : Fin 1)

set_option backward.isDefEq.respectTransparency.types false in
/-- The call, over every buffer of the host program at `V` on entry and at `Vp` on exit. -/
def call (h0 : ∀ c, Vp c main_v14_0 = meanV V c) (h1 : ∀ c, Vp c main_v14_1 = spreadV V c)
    (hn : ∀ c (b : Ref sig .tc), b ≠ main_v14_0 → b ≠ main_v14_1 → Vp c b = V c b) :
    Pipeline.RegionSeg (pcfgs (F := F)) (tables V) (pdats V) none defs₀ 𝒱₀ L lv 0 where
  win := (launch1 (F := F)).win.to₀
  block_pos := (launch1 (F := F)).block_pos
  stage_whole := (launch1 (F := F)).stage_whole
  K := PEmpty
  osem k := k.elim
  ho := Pipeline.OwnSemFacts.none _
  hbody c := (body_obligation V c).loose
  hwaits := Pipeline.hwaits_of_owed_zero _ _ _ _ L lv 0 fun _ _ => rfl
  pre c := iprop(unscopedBufs c (V c) ∗ debts (F := F) c)
  post c := iprop(unscopedBufs c (Vp c) ∗ debts (F := F) c)
  X _ := BI.emp
  Y c := Pipeline.prefHeld pre1 c (fun _ => fullShare) (fun k => V c (pre1.ref k))
  Z c := Pipeline.unscopedRestP (Ix := HIx 1) (Name := ℕ) (U := UU) (Lvl := ℕ) pre1 spec1 c (V c)
  hentry c := by
    rw [Pipeline.ownSems0_none]
    have hsplit := Pipeline.arrays_of_unscopedBufs (p := 0) (pcfgs (F := F)) (tables V) (pdats V) (launch1 (F := F)).win (launch1 (F := F)).arr_whole c
      ((pdats V 0 c).share_full fun _ => rfl) (V c) fun _ => rfl
    have htab := Pipeline.unscopedRest_split (Ix := HIx 1) (Name := ℕ) (U := UU) (Lvl := ℕ) preFacts1 c (V c)
    iintro ⟨⟨Hub, HO⟩, -, -⟩
    ihave H := hsplit $$ Hub
    icases H with ⟨Ha, Hrest⟩
    ihave H := (Entails.of_eq htab) $$ Hrest
    icases H with ⟨Ht, Hrest⟩
    imodintro
    isplitl [Ha]; · iexact Ha
    isplitl [Ht]
    · obtain rfl := device c
      iexact Ht
    isplitl [HO]
    · unfold debts Pipeline.Dat.owesAt Pipeline.owesWithin
      icases HO with ⟨%W, %hW, HO⟩; iexists W
      isplitr; · ipureintro; exact fun p hp => Or.inl (hW p hp)
      iexact HO
    isplitr; · iempintro
    iexact Hrest
  hin c := by
    rw [scopedRest1_eq, phi_start, owns_whole_eq, owns_whole_exists, owns_whole_exists]
    iintro ⟨-, Ht, H⟩
    isplitr [H]
    · iexists _; isplitr; swap
      · iapply (Entails.of_eq (table_held V c))
        obtain rfl := device c
        iexact Ht
      · ipureintro; rfl
    iexact H
  hout c := by
    rw [Pipeline.ownSems0_none, scopedRest1_eq, phi_end, owns_whole_eq, owns_whole_exists, owns_whole_exists]
    iintro ⟨⟨%f, %hf, Ht⟩, H⟩
    subst hf
    isplitl [Ht]
    · iapply (Entails.of_eq (table_held V c).symm)
      iexact Ht
    isplitr; · iempintro
    iexact H
  hexit c := by
    have hjoin := Pipeline.unscopedBufs_of_arrays (p := 0) (pcfgs (F := F)) (tables V) (Ix := HIx 1) (Name := ℕ) (U := UU) (Lvl := ℕ) (launch1 (F := F)).win (launch1 (F := F)).arr_whole c
      (pdats V) ((pdats V 0 c).share_full fun _ => rfl) (V c) (Vp c) ((pdats V 0 c).arrAt · (cfgV V).N)
      (arrays_end V Vp c (h0 c) (h1 c) (hn c))
      (fun b hb => hn c b (fun h => hb (h ▸ Finset.mem_image.mpr ⟨13, Finset.mem_univ _, rfl⟩))
        (fun h => hb (h ▸ Finset.mem_image.mpr ⟨14, Finset.mem_univ _, rfl⟩)))
    have htab := Pipeline.unscopedRest_split (Ix := HIx 1) (Name := ℕ) (U := UU) (Lvl := ℕ) preFacts1 c (V c)
    iintro ⟨Ha, HO, Ht, Hrest⟩
    imodintro
    isplitl [Ha Ht Hrest]
    · iapply hjoin
      isplitl [Ha]; · iexact Ha
      iapply (Entails.of_eq htab.symm)
      isplitl [Ht]; · iexact Ht
      iexact Hrest
    unfold debts Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

end Cert.Proof

end
-- ==== Proof.Gather.lean ====
/-
  The SparseCore call.  Each of the two sequencers fetches the agent's number, then copies blocks 128 columns wide out of
  the transposed tables: SparseCore 0 the first position plane and eight rows of headings, SparseCore 1 the second position
  plane and eight rows of both velocity planes.  What the call takes and gives back is stated with contents: the number and
  the position table are shared between the two cores, the result of the position copies is split by its planes, and every
  result comes back holding the block of its table.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open Idealize.SL.BI.BIBase Idealize.SL.BI.Laws Idealize.SL.ProofMode Idealize.SL.Sem
open scoped Idealize.SL.BI
open Idealize.ShloMosaic.Rounds
open Idealize.ShloMosaic.ValueIdx
open Idealize.ShloMosaic.Tactic

variable {F : FTy → Type}

/-! ## What the copies compute -/

/-- Two position planes, all times, the 128 columns of the agent's block. -/
def posOut {α : Type} (x : S3x110x10112.Idx → α) (v : BitVec 32) : S2x110x128.Idx → α := fun i =>
  x (ix3 (Fin.ofNat 3 (i 0).val) (Fin.ofNat 110 (i 1).val) (Fin.ofNat 10112 (stripe v + (i 2).val)))
/-- Two velocity planes, times 48 to 55, the 128 columns of the agent's block. -/
def velOut {α : Type} (x : S3x110x10112.Idx → α) (v : BitVec 32) : S2x8x128.Idx → α := fun i =>
  x (ix3 (Fin.ofNat 3 (i 0).val) (Fin.ofNat 110 (48 + (i 1).val)) (Fin.ofNat 10112 (stripe v + (i 2).val)))
/-- Headings, times 48 to 55, the 128 columns of the agent's block. -/
def headOut {α : Type} (x : S110x10112.Idx → α) (v : BitVec 32) : S8x128.Idx → α := fun i =>
  x (ix2 (Fin.ofNat 110 (48 + (i 0).val)) (Fin.ofNat 10112 (stripe v + (i 1).val)))

/-! ## The buffers -/

local notation "𝕄" => MT nD τ sig (HIx 1) (Elt F) ℕ UU ℕ

-- the kernel's memrefs, as the body table passes them
local notation "iW" => (Memref.whole main_v1_scs : Memref sig Kind.scScalar Space.hbm S1 EltTy.i32)
local notation "pW" => (Memref.whole main_v5_scs : Memref sig Kind.scScalar Space.hbm S3x110x10112 EltTy.f32)
local notation "wW" => (Memref.whole main_v6_scs : Memref sig Kind.scScalar Space.hbm S3x110x10112 EltTy.f32)
local notation "hW" => (Memref.whole main_v7_scs : Memref sig Kind.scScalar Space.hbm S110x10112 EltTy.f32)
local notation "poW" => (Memref.whole main_v8_0_scs : Memref sig Kind.scScalar Space.hbm S2x110x128 EltTy.f32)
local notation "woW" => (Memref.whole main_v8_1_scs : Memref sig Kind.scScalar Space.hbm S2x8x128 EltTy.f32)
local notation "hoW" => (Memref.whole main_v8_2_scs : Memref sig Kind.scScalar Space.hbm S8x128 EltTy.f32)
local notation "nW" => (Memref.whole cc0_scratch0 : Memref sig Kind.scScalar Space.smem S1 EltTy.i32)

-- the planes of the position result, as the program slices them
local notation "po0" => (Memref.slice poW (Rect.unit (s := S2x110x128) ![0, 0, 0] S1x110x128.size inb_S2x110x128_S1x110x128_0_0_0) (fun _ => rfl) : Memref sig Kind.scScalar Space.hbm S1x110x128 EltTy.f32)
local notation "po1" => (Memref.slice poW (Rect.unit (s := S2x110x128) ![1, 0, 0] S1x110x128.size inb_S2x110x128_S1x110x128_1_0_0) (fun _ => rfl) : Memref sig Kind.scScalar Space.hbm S1x110x128 EltTy.f32)

abbrev iLoc (d : Dev nD) : Loc nD τ sig := (SparseCore.T d).loc main_v1
abbrev pLoc (d : Dev nD) : Loc nD τ sig := (SparseCore.T d).loc main_v5
abbrev wLoc (d : Dev nD) : Loc nD τ sig := (SparseCore.T d).loc main_v6
abbrev hLoc (d : Dev nD) : Loc nD τ sig := (SparseCore.T d).loc main_v7
abbrev poLoc (d : Dev nD) : Loc nD τ sig := (SparseCore.T d).loc main_v8_0
abbrev woLoc (d : Dev nD) : Loc nD τ sig := (SparseCore.T d).loc main_v8_1
abbrev hoLoc (d : Dev nD) : Loc nD τ sig := (SparseCore.T d).loc main_v8_2

/-- The positions in the position result of its first plane, and of its second. -/
def plane0 (d : Dev nD) : Finset (Idx (poLoc d)) := (po0).view.set
def plane1 (d : Dev nD) : Finset (Idx (poLoc d)) := (po1).view.set

variable (A : Dev nD → Valuation τ sig (Elt F))

/-- The arrays' contents when the call starts. -/
abbrev idxA (d : Dev nD) : Buf (Elt F) (iLoc d) := A d (Proc.devRef .tc (main_v1 : Ref sig .tc))
abbrev posA (d : Dev nD) : Buf (Elt F) (pLoc d) := A d (Proc.devRef .tc (main_v5 : Ref sig .tc))
abbrev velA (d : Dev nD) : Buf (Elt F) (wLoc d) := A d (Proc.devRef .tc (main_v6 : Ref sig .tc))
abbrev headA (d : Dev nD) : Buf (Elt F) (hLoc d) := A d (Proc.devRef .tc (main_v7 : Ref sig .tc))
/-- The agent's number. -/
abbrev agent (d : Dev nD) : BitVec 32 := (idxA A d : S1.Idx → BitVec 32) (ix1 0)
/-- The results' contents when it ends. -/
abbrev posR (d : Dev nD) : Buf (Elt F) (poLoc d) := posOut (posA A d : S3x110x10112.Idx → F .f32) (agent A d)
abbrev velR (d : Dev nD) : Buf (Elt F) (woLoc d) := velOut (velA A d : S3x110x10112.Idx → F .f32) (agent A d)
abbrev headR (d : Dev nD) : Buf (Elt F) (hoLoc d) := headOut (headA A d : S110x10112.Idx → F .f32) (agent A d)

variable [FloatOps F]

/-- What the call hands a SparseCore, and what it takes back: the same arrays, the results with their contents. -/
def st0 (d : Dev nD) : sProp 𝕄 :=
  iprop((iLoc d ↦{fullShare.left} idxA A d) ∗ (pLoc d ↦{fullShare.left} posA A d) ∗ (hLoc d ↦{fullShare} headA A d)
    ∗ (∃ f, poLoc d ↦[plane0 d]{fullShare} f) ∗ ∃ f, hoLoc d ↦{fullShare} f)
def dn0 (d : Dev nD) : sProp 𝕄 :=
  iprop((iLoc d ↦{fullShare.left} idxA A d) ∗ (pLoc d ↦{fullShare.left} posA A d) ∗ (hLoc d ↦{fullShare} headA A d)
    ∗ (poLoc d ↦[plane0 d]{fullShare} posR A d) ∗ hoLoc d ↦{fullShare} headR A d)
def st1 (d : Dev nD) : sProp 𝕄 :=
  iprop((iLoc d ↦{fullShare.right} idxA A d) ∗ (pLoc d ↦{fullShare.right} posA A d) ∗ (wLoc d ↦{fullShare} velA A d)
    ∗ (∃ f, poLoc d ↦[plane1 d]{fullShare} f) ∗ ∃ f, woLoc d ↦{fullShare} f)
def dn1 (d : Dev nD) : sProp 𝕄 :=
  iprop((iLoc d ↦{fullShare.right} idxA A d) ∗ (pLoc d ↦{fullShare.right} posA A d) ∗ (wLoc d ↦{fullShare} velA A d)
    ∗ (poLoc d ↦[plane1 d]{fullShare} posR A d) ∗ woLoc d ↦{fullShare} velR A d)

def stC (d : Dev nD) (c : ℕ) : sProp 𝕄 := if c = 0 then st0 A d else st1 A d
def dnC (d : Dev nD) (c : ℕ) : sProp 𝕄 := if c = 0 then dn0 A d else dn1 A d

instance stC_storable (d : Dev nD) (c : ℕ) : BI.Storable (upEmb : UEmb _ 𝕄) (stC A d c) := by
  unfold stC st0 st1; split <;> infer_instance
instance dnC_storable (d : Dev nD) (c : ℕ) : BI.Storable (upEmb : UEmb _ 𝕄) (dnC A d c) := by
  unfold dnC dn0 dn1; split <;> infer_instance

/-- The call's payloads. -/
def P : (K (F := F)).Pay (nD := nD) (Val := Elt F) (Name := ℕ) (U := UU) where
  st := fun _ d c => stC A d c.val
  dn := fun _ d c => dnC A d c.val
  go := fun _ _ _ _ => iprop(emp)
  td := fun _ _ _ _ => iprop(emp)
  x := fun _ _ => iprop(emp)

instance P_storable : (P (F := F) A).IsStorable where
  st _ d c := by unfold P; infer_instance
  dn _ d c := by unfold P; infer_instance
  go _ _ _ _ := by unfold P; infer_instance
  td _ _ _ _ := by unfold P; infer_instance

/-! ## The contents the copies leave -/

omit [FloatOps F] in
/-- A view written over in full holds, under it, whatever contents read through it as what was written. -/
theorem writes_all {κ : Kind} {sp : Space} {s : Shape} {e : EltTy} (v : View sig κ sp s e) (f g : v.ty.Contents (Elt F))
    (w : s.Idx → Elt F e) (hg : v.read (Elt F) g = w) : ∀ i ∈ v.set, v.writes (Elt F) f [⟨Rect.whole s, w⟩] i = g i := by
  intro i hi
  obtain ⟨x, -, rfl⟩ := Finset.mem_map.mp hi
  subst hg
  have h1 := View.read_writes_cons_emb v f (Rect.whole s) (v.read (Elt F) g) [] x
  rw [Rect.emb_whole_apply, View.read_apply, View.read_apply] at h1
  exact (cast_bijective _).injective h1

omit [FloatOps F] in
/-- The number a sequencer reads back from its scratch. -/
theorem read_number (x : S1.Idx → BitVec 32) (i : S1.Idx) : x i = x (ix1 0) := by
  congr 1; funext a; fin_cases a; apply Fin.ext; have := (i 0).isLt; show (i 0).val = 0
  have h : S1.size 0 = 1 := rfl
  omega

section Cut
variable (d : Dev nD)

omit [FloatOps F] in
theorem cut_pos0 (hA : (agent A d).toNat < 10000) (hb : ∀ a, (k0_off1 (agent A d)) a + S1x110x128.size a ≤ S3x110x10112.size a) :
    (po0).view.read (Elt F) (posR A d) = (Memref.slice pW (Rect.unit (s := S3x110x10112) (k0_off1 (agent A d)) S1x110x128.size hb) (fun _ => rfl)).view.read (Elt F) (posA A d) := by
  have hs := stripe_add_le hA
  funext x
  have h0 : (x 0).val < 1 := (x 0).isLt
  have h1 : (x 1).val < 110 := (x 1).isLt
  have h2 : (x 2).val < 128 := (x 2).isLt
  have e : k0_off1 (agent A d) = ![0, 0, stripe (agent A d)] := off1 hA
  refine congrArg (posA A d) ?_
  funext a; apply Fin.ext
  fin_cases a
  · show (0 + 1 * (x 0).val) % 3 = k0_off1 (agent A d) 0 + 1 * (x 0).val
    rw [e]; show (0 + 1 * (x 0).val) % 3 = 0 + 1 * (x 0).val; omega
  · show (0 + 1 * (x 1).val) % 110 = k0_off1 (agent A d) 1 + 1 * (x 1).val
    rw [e]; show (0 + 1 * (x 1).val) % 110 = 0 + 1 * (x 1).val; omega
  · show (stripe (agent A d) + (0 + 1 * (x 2).val)) % 10112 = k0_off1 (agent A d) 2 + 1 * (x 2).val
    rw [e]; show (stripe (agent A d) + (0 + 1 * (x 2).val)) % 10112 = stripe (agent A d) + 1 * (x 2).val; omega

omit [FloatOps F] in
theorem cut_pos1 (hA : (agent A d).toNat < 10000) (hb : ∀ a, (k0_off3 (agent A d)) a + S1x110x128.size a ≤ S3x110x10112.size a) :
    (po1).view.read (Elt F) (posR A d) = (Memref.slice pW (Rect.unit (s := S3x110x10112) (k0_off3 (agent A d)) S1x110x128.size hb) (fun _ => rfl)).view.read (Elt F) (posA A d) := by
  have hs := stripe_add_le hA
  funext x
  have h0 : (x 0).val < 1 := (x 0).isLt
  have h1 : (x 1).val < 110 := (x 1).isLt
  have h2 : (x 2).val < 128 := (x 2).isLt
  have e : k0_off3 (agent A d) = ![1, 0, stripe (agent A d)] := off3 hA
  refine congrArg (posA A d) ?_
  funext a; apply Fin.ext
  fin_cases a
  · show (1 + 1 * (x 0).val) % 3 = k0_off3 (agent A d) 0 + 1 * (x 0).val
    rw [e]; show (1 + 1 * (x 0).val) % 3 = 1 + 1 * (x 0).val; omega
  · show (0 + 1 * (x 1).val) % 110 = k0_off3 (agent A d) 1 + 1 * (x 1).val
    rw [e]; show (0 + 1 * (x 1).val) % 110 = 0 + 1 * (x 1).val; omega
  · show (stripe (agent A d) + (0 + 1 * (x 2).val)) % 10112 = k0_off3 (agent A d) 2 + 1 * (x 2).val
    rw [e]; show (stripe (agent A d) + (0 + 1 * (x 2).val)) % 10112 = stripe (agent A d) + 1 * (x 2).val; omega

omit [FloatOps F] in
theorem cut_head (hA : (agent A d).toNat < 10000) (hb : ∀ a, (k0_off2 (agent A d)) a + S8x128.size a ≤ S110x10112.size a) :
    (headR A d) = (Memref.slice hW (Rect.unit (s := S110x10112) (k0_off2 (agent A d)) S8x128.size hb) (fun _ => rfl)).view.read (Elt F) (headA A d) := by
  have hs := stripe_add_le hA
  funext (x : S8x128.Idx)
  have h0 : (x 0).val < 8 := (x 0).isLt
  have h1 : (x 1).val < 128 := (x 1).isLt
  have e : k0_off2 (agent A d) = ![48, stripe (agent A d)] := off2 hA
  refine congrArg (headA A d) ?_
  funext a; apply Fin.ext
  fin_cases a
  · show (48 + (x 0).val) % 110 = k0_off2 (agent A d) 0 + 1 * (x 0).val
    rw [e]; show (48 + (x 0).val) % 110 = 48 + 1 * (x 0).val; omega
  · show (stripe (agent A d) + (x 1).val) % 10112 = k0_off2 (agent A d) 1 + 1 * (x 1).val
    rw [e]; show (stripe (agent A d) + (x 1).val) % 10112 = stripe (agent A d) + 1 * (x 1).val; omega

omit [FloatOps F] in
theorem cut_vel (hA : (agent A d).toNat < 10000) (hb : ∀ a, (k0_off4 (agent A d)) a + S2x8x128.size a ≤ S3x110x10112.size a) :
    (velR A d) = (Memref.slice wW (Rect.unit (s := S3x110x10112) (k0_off4 (agent A d)) S2x8x128.size hb) (fun _ => rfl)).view.read (Elt F) (velA A d) := by
  have hs := stripe_add_le hA
  funext (x : S2x8x128.Idx)
  have h0 : (x 0).val < 2 := (x 0).isLt
  have h1 : (x 1).val < 8 := (x 1).isLt
  have h2 : (x 2).val < 128 := (x 2).isLt
  have e : k0_off4 (agent A d) = ![0, 48, stripe (agent A d)] := off4 hA
  refine congrArg (velA A d) ?_
  funext a; apply Fin.ext
  fin_cases a
  · show (x 0).val % 3 = k0_off4 (agent A d) 0 + 1 * (x 0).val
    rw [e]; show (x 0).val % 3 = 0 + 1 * (x 0).val; omega
  · show (48 + (x 1).val) % 110 = k0_off4 (agent A d) 1 + 1 * (x 1).val
    rw [e]; show (48 + (x 1).val) % 110 = 48 + 1 * (x 1).val; omega
  · show (stripe (agent A d) + (x 2).val) % 10112 = k0_off4 (agent A d) 2 + 1 * (x 2).val
    rw [e]; show (stripe (agent A d) + (x 2).val) % 10112 = stripe (agent A d) + 1 * (x 2).val; omega

end Cut

/-! ## A sequencer's own semaphores and scratch -/

section Body

variable (d : Dev nD)

/-- A sequencer's grid coordinates. -/
def coordsS (c : Fin (grid0.bound 0)) : grid0.Coords := fun | 0 => c | ⟨_ + 1, h⟩ => absurd h (Nat.not_lt.2 (Nat.le_add_left _ _))

abbrev cell0 (c : Fin τ.nSC) : GSem nD τ sig := (S d c, .dma cc0_scoped0.sem)
abbrev cell1 (c : Fin τ.nSC) : GSem nD τ sig := (S d c, .dma cc0_scoped1.sem)
abbrev cell2 (c : Fin τ.nSC) : GSem nD τ sig := (S d c, .dma cc0_scoped2.sem)
abbrev cell3 (c : Fin τ.nSC) : GSem nD τ sig := (S d c, .dma cc0_scoped3.sem)
abbrev cell4 (c : Fin τ.nSC) : GSem nD τ sig := (S d c, .dma cc0_scoped4.sem)

omit [FloatOps F] in
/-- The semaphores SparseCore 0's copies signal, at zero, out of the sequencer's. -/
theorem ownSems0_first (c : Fin τ.nSC) :
    (ownSems0 (S d c) : sProp 𝕄) = iprop(semVal (cell0 d c) 0 ∗ semVal (cell1 d c) 0 ∗ semVal (cell2 d c) 0
      ∗ bigSep ((((ownCells (S d c)).erase (cell0 d c)).erase (cell1 d c)).erase (cell2 d c)) fun g => semVal g 0) := by
  unfold SparseCore.Cfg.ownSems0
  rw [SparseCore.bigSep_erase' ((mem_ownCells (g := cell0 d c)).mpr ⟨rfl, by
      show (SemLoc.dma cc0_scoped0.sem : SemLoc sig).isScoped .scScalar = true; decide⟩),
    SparseCore.bigSep_erase' (Finset.mem_erase.mpr ⟨by simp [cell0, cell1]; decide, (mem_ownCells (g := cell1 d c)).mpr ⟨rfl, by
      show (SemLoc.dma cc0_scoped1.sem : SemLoc sig).isScoped .scScalar = true; decide⟩⟩),
    SparseCore.bigSep_erase' (Finset.mem_erase.mpr ⟨by simp [cell2, cell1]; decide, Finset.mem_erase.mpr ⟨by simp [cell2, cell0]; decide,
      (mem_ownCells (g := cell2 d c)).mpr ⟨rfl, by show (SemLoc.dma cc0_scoped2.sem : SemLoc sig).isScoped .scScalar = true; decide⟩⟩⟩)]

omit [FloatOps F] in
/-- The semaphores SparseCore 1's copies signal, at zero, out of the sequencer's. -/
theorem ownSems0_second (c : Fin τ.nSC) :
    (ownSems0 (S d c) : sProp 𝕄) = iprop(semVal (cell0 d c) 0 ∗ semVal (cell3 d c) 0 ∗ semVal (cell4 d c) 0
      ∗ bigSep ((((ownCells (S d c)).erase (cell0 d c)).erase (cell3 d c)).erase (cell4 d c)) fun g => semVal g 0) := by
  unfold SparseCore.Cfg.ownSems0
  rw [SparseCore.bigSep_erase' ((mem_ownCells (g := cell0 d c)).mpr ⟨rfl, by
      show (SemLoc.dma cc0_scoped0.sem : SemLoc sig).isScoped .scScalar = true; decide⟩),
    SparseCore.bigSep_erase' (Finset.mem_erase.mpr ⟨by simp [cell0, cell3]; decide, (mem_ownCells (g := cell3 d c)).mpr ⟨rfl, by
      show (SemLoc.dma cc0_scoped3.sem : SemLoc sig).isScoped .scScalar = true; decide⟩⟩),
    SparseCore.bigSep_erase' (Finset.mem_erase.mpr ⟨by simp [cell4, cell3]; decide, Finset.mem_erase.mpr ⟨by simp [cell4, cell0]; decide,
      (mem_ownCells (g := cell4 d c)).mpr ⟨rfl, by show (SemLoc.dma cc0_scoped4.sem : SemLoc sig).isScoped .scScalar = true; decide⟩⟩⟩)]

omit [FloatOps F] in
/-- The scratch word, at some contents, out of the sequencer's own buffers. -/
theorem ownBufs_S (c : Fin τ.nSC) :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scScalar c) (b := (Proc.scScalar c).devRef cc0_scratch0) rfl)

/-- SparseCore 0's sequencer thread, and SparseCore 1's. -/
abbrev S0 (h : 0 < grid0.bound 0) : Thread nD τ := S d ((⟨0, h⟩ : Fin (grid0.bound 0)).castLE hcore0)
abbrev S1 (h : 1 < grid0.bound 0) : Thread nD τ := S d ((⟨1, h⟩ : Fin (grid0.bound 0)).castLE hcore0)

/-- SparseCore 0's sequencer: three copies, each waited for. -/
theorem body₀ (hA : (agent A d).toNat < 10000) (h : 0 < grid0.bound 0) (O : CellTallies nD τ sig (HIx 1)) (W : Waits sig (HIx 1)) (hO : ∀ g, O g none = 0) :
    iprop(levAts (K (F := F)).L (K (F := F)).lev ∗ emp ∗ st0 A d
        ∗ scopedBufs (S0 d h) ∗ scopedSems0 (S0 d h) ∗ owes (S0 d h) O W)
      ⊢ wp frame (wpE (defs₀ (F := F)) 𝒱₀ (S0 d h) none) Set.univ
          (cc0__sc_gather (coordsS ⟨0, h⟩) iW (Memref.isWhole_whole _) pW (Memref.isWhole_whole _) wW (Memref.isWhole_whole _) hW (Memref.isWhole_whole _)
            poW (Memref.isWhole_whole _) woW (Memref.isWhole_whole _) hoW (Memref.isWhole_whole _) nW (Memref.isWhole_whole _)
            cc0_scoped0 cc0_scoped1 cc0_scoped2 cc0_scoped3 cc0_scoped4)
          fun _ => iprop(dn0 A d ∗ scopedBufs (S0 d h) ∗ scopedSems0 (S0 d h) ∗ ∃ W', ⌜∀ p ∈ W', p ∈ W ∨ p.2 = none⌝ ∗ owes (S0 d h) O W') := by
  have k0_h1 : k0_cond1 (coordsS ⟨0, h⟩) = 1#1 := by decide +revert
  have k0_h2 : ¬ k0_cond2 (coordsS ⟨0, h⟩) = 1#1 := by decide +revert
  have hchk := chk hA (coordsS ⟨0, h⟩)
  simp only [cc0__sc_gather_eq_skeleton]; unfold cc0__sc_gather_skel
  unfold st0
  iintro ⟨#Hlv, -, ⟨Hi, Hp, Hh, ⟨%fp, Hpo⟩, ⟨%fh, Hho⟩⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_first (F := F) d (((⟨0, h⟩ : Fin (grid0.bound 0))).castLE hcore0))) $$ Hown
  icases Hown' with ⟨Hs0, Hs1, Hs2, Hrest⟩
  ihave Hsb' := ((K (F := F)).scopedBufs_S_elim facts d (((⟨0, h⟩ : Fin (grid0.bound 0))).castLE hcore0)) $$ Hsb
  icases Hsb' with ⟨Hob, Hsubb⟩
  ihave Hob' := (Entails.of_eq (ownBufs_S (F := F) d (((⟨0, h⟩ : Fin (grid0.bound 0))).castLE hcore0))) $$ Hob
  icases Hob' with ⟨⟨%fn, Hn⟩, Hobr⟩
  ihave Hmw := ((K (F := F)).mayWaits_none (thr := S0 d h) hO) $$ Hlv
  ihave Hi' := (show (iLoc d ↦{fullShare.left} idxA A d : sProp 𝕄) ⊢ ((iW).view.loc (S0 d h) ↦{fullShare.left} idxA A d) from .rfl) $$ Hi
  ihave Hp' := (show (pLoc d ↦{fullShare.left} posA A d : sProp 𝕄) ⊢ ((pW).view.loc (S0 d h) ↦{fullShare.left} posA A d) from .rfl) $$ Hp
  ihave Hh' := (show (hLoc d ↦{fullShare} headA A d : sProp 𝕄) ⊢ ((hW).view.loc (S0 d h) ↦{fullShare} headA A d) from .rfl) $$ Hh
  ihave Hpo' := (show (poLoc d ↦[plane0 d]{fullShare} fp : sProp 𝕄) ⊢ ((po0).view.loc (S0 d h) ↦[(po0).view.set]{fullShare} fp) from .rfl) $$ Hpo
  ihave Hho' := (show (hoLoc d ↦{fullShare} fh : sProp 𝕄) ⊢ ((hoW).view.loc (S0 d h) ↦{fullShare} fh) from .rfl) $$ Hho
  ihave Hn' := (show ((S0 d h).loc cc0_scratch0 ↦{fullShare} fn : sProp 𝕄) ⊢ ((nW).view.loc (S0 d h) ↦{fullShare} fn) from .rfl) $$ Hn
  sl_exec
  have hr : body₀.sl.r A d h fn = agent A d := by
    unfold body₀.sl.r body₀.sl.dma0
    simp only [Memref.view_whole, View.write_whole_univ]
    exact read_number (idxA A d) _
  rw [hr]
  sl_exec
  sl_step
  isplitl [Hi' Hp' Hh' Hpo' Hho']
  · unfold dn0
    isplitl [Hi']; · iexact Hi'
    isplitl [Hp']; · iexact Hp'
    isplitl [Hh']; · iexact Hh'
    isplitl [Hpo']
    · iapply (Entails.of_eq (pointsTo_congr (writes_all (po0).view fp (posR A d) _ (cut_pos0 A d hA _))))
      iexact Hpo'
    · rw [cut_head A d hA (k0_off2_inb _ _ hchk k0_h1)]
      iapply (Entails.of_eq (congrArg (fun f => (hoLoc d ↦{fullShare} f : sProp 𝕄)) (View.write_whole_univ main_v8_2_scs fh _)))
      iexact Hho'
  isplitl [Hn' Hobr Hsubb]
  · iapply ((K (F := F)).scopedBufs_S_intro facts d _)
    isplitl [Hn' Hobr]
    · rw [ownBufs_S]; isplitl [Hn']
      · iexists _; iexact Hn'
      · iexact Hobr
    · iexact Hsubb
  isplitl [Hs0 Hs1 Hs2 Hrest Hsubs]
  · iapply (SparseCore.Cfg.scopedSems0_S_intro (Val := Elt F) d _)
    isplitl [Hs0 Hs1 Hs2 Hrest]
    · rw [ownSems0_first]
      isplitl [Hs0]; · iexact Hs0
      isplitl [Hs1]; · iexact Hs1
      isplitl [Hs2]; · iexact Hs2
      iexact Hrest
    · iexact Hsubs
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact .inl hp

/-- SparseCore 1's sequencer: three copies, each waited for. -/
theorem body₁ (hA : (agent A d).toNat < 10000) (h : 1 < grid0.bound 0) (O : CellTallies nD τ sig (HIx 1)) (W : Waits sig (HIx 1)) (hO : ∀ g, O g none = 0) :
    iprop(levAts (K (F := F)).L (K (F := F)).lev ∗ emp ∗ st1 A d
        ∗ scopedBufs (S1 d h) ∗ scopedSems0 (S1 d h) ∗ owes (S1 d h) O W)
      ⊢ wp frame (wpE (defs₀ (F := F)) 𝒱₀ (S1 d h) none) Set.univ
          (cc0__sc_gather (coordsS ⟨1, h⟩) iW (Memref.isWhole_whole _) pW (Memref.isWhole_whole _) wW (Memref.isWhole_whole _) hW (Memref.isWhole_whole _)
            poW (Memref.isWhole_whole _) woW (Memref.isWhole_whole _) hoW (Memref.isWhole_whole _) nW (Memref.isWhole_whole _)
            cc0_scoped0 cc0_scoped1 cc0_scoped2 cc0_scoped3 cc0_scoped4)
          fun _ => iprop(dn1 A d ∗ scopedBufs (S1 d h) ∗ scopedSems0 (S1 d h) ∗ ∃ W', ⌜∀ p ∈ W', p ∈ W ∨ p.2 = none⌝ ∗ owes (S1 d h) O W') := by
  have k0_h1 : ¬ k0_cond1 (coordsS ⟨1, h⟩) = 1#1 := by decide +revert
  have k0_h2 : k0_cond2 (coordsS ⟨1, h⟩) = 1#1 := by decide +revert
  have hchk := chk hA (coordsS ⟨1, h⟩)
  simp only [cc0__sc_gather_eq_skeleton]; unfold cc0__sc_gather_skel
  unfold st1
  iintro ⟨#Hlv, -, ⟨Hi, Hp, Hh, ⟨%fp, Hpo⟩, ⟨%fh, Hho⟩⟩, Hsb, Hss, HO⟩
  ihave Hss' := (SparseCore.Cfg.scopedSems0_S_elim (Val := Elt F) d (((⟨1, h⟩ : Fin (grid0.bound 0))).castLE hcore0)) $$ Hss
  icases Hss' with ⟨Hown, Hsubs⟩
  ihave Hown' := (Entails.of_eq (ownSems0_second (F := F) d (((⟨1, h⟩ : Fin (grid0.bound 0))).castLE hcore0))) $$ Hown
  icases Hown' with ⟨Hs0, Hs1, Hs2, Hrest⟩
  ihave Hsb' := ((K (F := F)).scopedBufs_S_elim facts d (((⟨1, h⟩ : Fin (grid0.bound 0))).castLE hcore0)) $$ Hsb
  icases Hsb' with ⟨Hob, Hsubb⟩
  ihave Hob' := (Entails.of_eq (ownBufs_S (F := F) d (((⟨1, h⟩ : Fin (grid0.bound 0))).castLE hcore0))) $$ Hob
  icases Hob' with ⟨⟨%fn, Hn⟩, Hobr⟩
  ihave Hmw := ((K (F := F)).mayWaits_none (thr := S1 d h) hO) $$ Hlv
  ihave Hi' := (show (iLoc d ↦{fullShare.right} idxA A d : sProp 𝕄) ⊢ ((iW).view.loc (S1 d h) ↦{fullShare.right} idxA A d) from .rfl) $$ Hi
  ihave Hp' := (show (pLoc d ↦{fullShare.right} posA A d : sProp 𝕄) ⊢ ((pW).view.loc (S1 d h) ↦{fullShare.right} posA A d) from .rfl) $$ Hp
  ihave Hh' := (show (wLoc d ↦{fullShare} velA A d : sProp 𝕄) ⊢ ((wW).view.loc (S1 d h) ↦{fullShare} velA A d) from .rfl) $$ Hh
  ihave Hpo' := (show (poLoc d ↦[plane1 d]{fullShare} fp : sProp 𝕄) ⊢ ((po1).view.loc (S1 d h) ↦[(po1).view.set]{fullShare} fp) from .rfl) $$ Hpo
  ihave Hho' := (show (woLoc d ↦{fullShare} fh : sProp 𝕄) ⊢ ((woW).view.loc (S1 d h) ↦{fullShare} fh) from .rfl) $$ Hho
  ihave Hn' := (show ((S1 d h).loc cc0_scratch0 ↦{fullShare} fn : sProp 𝕄) ⊢ ((nW).view.loc (S1 d h) ↦{fullShare} fn) from .rfl) $$ Hn
  sl_exec
  have hr : body₁.sl.r A d h fn = agent A d := by
    unfold body₁.sl.r body₁.sl.dma0
    simp only [Memref.view_whole, View.write_whole_univ]
    exact read_number (idxA A d) _
  rw [hr]
  sl_exec
  sl_step
  isplitl [Hi' Hp' Hh' Hpo' Hho']
  · unfold dn1
    isplitl [Hi']; · iexact Hi'
    isplitl [Hp']; · iexact Hp'
    isplitl [Hh']; · iexact Hh'
    isplitl [Hpo']
    · iapply (Entails.of_eq (pointsTo_congr (writes_all (po1).view fp (posR A d) _ (cut_pos1 A d hA _))))
      iexact Hpo'
    · rw [cut_vel A d hA (k0_off4_inb _ _ hchk k0_h2)]
      iapply (Entails.of_eq (congrArg (fun f => (woLoc d ↦{fullShare} f : sProp 𝕄)) (View.write_whole_univ main_v8_1_scs fh _)))
      iexact Hho'
  isplitl [Hn' Hobr Hsubb]
  · iapply ((K (F := F)).scopedBufs_S_intro facts d _)
    isplitl [Hn' Hobr]
    · rw [ownBufs_S]; isplitl [Hn']
      · iexists _; iexact Hn'
      · iexact Hobr
    · iexact Hsubb
  isplitl [Hs0 Hs1 Hs2 Hrest Hsubs]
  · iapply (SparseCore.Cfg.scopedSems0_S_intro (Val := Elt F) d _)
    isplitl [Hs0 Hs1 Hs2 Hrest]
    · rw [ownSems0_second]
      isplitl [Hs0]; · iexact Hs0
      isplitl [Hs1]; · iexact Hs1
      isplitl [Hs2]; · iexact Hs2
      iexact Hrest
    · iexact Hsubs
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact .inl hp

end Body

/-! ## The launch theorem's obligation -/

theorem defs₀_scalar (c : Fin τ.nSC) :
    defs₀ (F := F) (.scScalar c) 0 ()
      = SparseCore.onCore hcore0 (fun c => cc0__sc_gather (coordsS c) iW (Memref.isWhole_whole _) pW (Memref.isWhole_whole _) wW (Memref.isWhole_whole _) hW (Memref.isWhole_whole _)
            poW (Memref.isWhole_whole _) woW (Memref.isWhole_whole _) hoW (Memref.isWhole_whole _) nW (Memref.isWhole_whole _)
            cc0_scoped0 cc0_scoped1 cc0_scoped2 cc0_scoped3 cc0_scoped4) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the launch theorem asks of the call: each sequencer, from what it is handed, hands back what it is to. -/
theorem scalarObl (hA : ∀ d, (agent A d).toNat < 10000) : (K (F := F)).ScalarObl (D (F := F)) 𝒱 (P A) v₀ 0 := by
  intro d c O W hO _ _
  simp only [show (P A).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ stC A d c.val ∗ _) ⊢ wp _ _ _ _ (fun _ => iprop(dnC A d c.val ∗ _))
  match c with
  | ⟨0, h⟩ => exact (body₀ A d (hA d) h O W hO).trans (wp_mono frame _ _ fun _ => obl_post)
  | ⟨1, h⟩ => exact (body₁ A d (hA d) h O W hO).trans (wp_mono frame _ _ fun _ => obl_post)

end Cert.Proof

end
-- ==== Proof.Call.lean ====
/-
  The SparseCore call's operands, split for the two sequencers and joined again: the agent's number and the position
  table go out as two half shares, the position result as its two planes.
-/
module

public import proofs.«01_k».proof.Proof.Gather

@[expose] public section

noncomputable section

namespace Cert.Proof

open Cert.KernelIdeal Cert.KernelIdeal.Gen

open Idealize.ShloMosaic
open Idealize.ShloMosaic.SparseCore.Cfg (HIx)
open Idealize.SL Idealize.SL.RA Idealize.SL.BI
open Idealize.SL.BI.BIBase Idealize.SL.BI.Laws Idealize.SL.ProofMode Idealize.SL.Sem
open scoped Idealize.SL.BI

variable {F : FTy → Type}

local notation "𝕄" => MT nD τ sig (HIx 1) (Elt F) ℕ UU ℕ

theorem mem_plane0 (d : Dev nD) (i : S2x110x128.Idx) : (show Idx (poLoc d) from i) ∈ plane0 d ↔ (i 0).val = 0 := by
  unfold plane0
  simp only [Memref.view_slice, Memref.view_whole, View.set_slice_whole]
  rw [Rect.mem_set_unit]
  constructor
  · intro h; have h3 : 0 ≤ (i 0).val ∧ (i 0).val < 0 + 1 := h 0; omega
  · intro h a
    have h1 : (i 1).val < 110 := (i 1).isLt
    have h2 : (i 2).val < 128 := (i 2).isLt
    fin_cases a
    · show 0 ≤ (i 0).val ∧ (i 0).val < 0 + 1; omega
    · show 0 ≤ (i 1).val ∧ (i 1).val < 0 + 110; omega
    · show 0 ≤ (i 2).val ∧ (i 2).val < 0 + 128; omega

theorem mem_plane1 (d : Dev nD) (i : S2x110x128.Idx) : (show Idx (poLoc d) from i) ∈ plane1 d ↔ (i 0).val = 1 := by
  unfold plane1
  simp only [Memref.view_slice, Memref.view_whole, View.set_slice_whole]
  rw [Rect.mem_set_unit]
  constructor
  · intro h; have h3 : 1 ≤ (i 0).val ∧ (i 0).val < 1 + 1 := h 0; omega
  · intro h a
    have h1 : (i 1).val < 110 := (i 1).isLt
    have h2 : (i 2).val < 128 := (i 2).isLt
    fin_cases a
    · show 1 ≤ (i 0).val ∧ (i 0).val < 1 + 1; omega
    · show 0 ≤ (i 1).val ∧ (i 1).val < 0 + 110; omega
    · show 0 ≤ (i 2).val ∧ (i 2).val < 0 + 128; omega

/-- The two planes are all of the position result. -/
theorem sdiff_plane0 (d : Dev nD) : Finset.univ \ plane0 d = plane1 d := by
  ext (i : S2x110x128.Idx)
  have h0 : (i 0).val < 2 := (i 0).isLt
  rw [Finset.mem_sdiff]
  rw [mem_plane0 d i, mem_plane1 d i]
  simp; omega

variable [FloatOps F] (A : Dev nD → Valuation τ sig (Elt F)) (d : Dev nD)

theorem call_in (f0 : Buf (Elt F) (poLoc d)) (f1 : Buf (Elt F) (woLoc d)) (f2 : Buf (Elt F) (hoLoc d)) :
    iprop((iLoc d ↦{fullShare} idxA A d) ∗ (pLoc d ↦{fullShare} posA A d) ∗ (wLoc d ↦{fullShare} velA A d) ∗ (hLoc d ↦{fullShare} headA A d)
        ∗ (poLoc d ↦{fullShare} f0) ∗ (woLoc d ↦{fullShare} f1) ∗ hoLoc d ↦{fullShare} f2)
      ⊢ (bigSep Finset.univ fun c : Fin ((K (F := F)).nCore 0) => (P A).st 0 d c : sProp 𝕄) := by
  show _ ⊢ (bigSep (Finset.univ : Finset (Fin 2)) fun c => stC A d c.val)
  rw [show (Finset.univ : Finset (Fin 2)) = {0, 1} by decide, SparseCore.bigSep_insert' (by decide), bigSep_singleton]
  show _ ⊢ iprop(st0 A d ∗ st1 A d)
  unfold st0 st1
  iintro ⟨Hi, Hp, Hw, Hh, Hpo, Hwo, Hho⟩
  ihave Hi' := (pointsTo_share (PosShare.mem_left_op_right _)).1 $$ Hi
  icases Hi' with ⟨Hi0, Hi1⟩
  ihave Hp' := (pointsTo_share (PosShare.mem_left_op_right _)).1 $$ Hp
  icases Hp' with ⟨Hp0, Hp1⟩
  ihave Hpo' := (pointsTo_split_subset (Finset.subset_univ (plane0 d))).1 $$ Hpo
  icases Hpo' with ⟨Hpo0, Hpo1⟩
  isplitl [Hi0 Hp0 Hh Hpo0 Hho]
  · isplitl [Hi0]; · iexact Hi0
    isplitl [Hp0]; · iexact Hp0
    isplitl [Hh]; · iexact Hh
    isplitl [Hpo0]; · iexists _; iexact Hpo0
    iexists _; iexact Hho
  · rw [sdiff_plane0]
    isplitl [Hi1]; · iexact Hi1
    isplitl [Hp1]; · iexact Hp1
    isplitl [Hw]; · iexact Hw
    isplitl [Hpo1]; · iexists _; iexact Hpo1
    iexists _; iexact Hwo

theorem call_out :
    (bigSep Finset.univ fun c : Fin ((K (F := F)).nCore 0) => (P A).dn 0 d c : sProp 𝕄)
      ⊢ iprop((iLoc d ↦{fullShare} idxA A d) ∗ (pLoc d ↦{fullShare} posA A d) ∗ (wLoc d ↦{fullShare} velA A d) ∗ (hLoc d ↦{fullShare} headA A d)
        ∗ (poLoc d ↦{fullShare} posR A d) ∗ (woLoc d ↦{fullShare} velR A d) ∗ hoLoc d ↦{fullShare} headR A d) := by
  show (bigSep (Finset.univ : Finset (Fin 2)) fun c => dnC A d c.val) ⊢ _
  rw [show (Finset.univ : Finset (Fin 2)) = {0, 1} by decide, SparseCore.bigSep_insert' (by decide), bigSep_singleton]
  show iprop(dn0 A d ∗ dn1 A d) ⊢ _
  unfold dn0 dn1
  iintro ⟨⟨Hi0, Hp0, Hh, Hpo0, Hho⟩, ⟨Hi1, Hp1, Hw, Hpo1, Hwo⟩⟩
  isplitl [Hi0 Hi1]
  · iapply (pointsTo_share (PosShare.mem_left_op_right _)).2; isplitl [Hi0] <;> iassumption
  isplitl [Hp0 Hp1]
  · iapply (pointsTo_share (PosShare.mem_left_op_right _)).2; isplitl [Hp0] <;> iassumption
  isplitl [Hw]; · iexact Hw
  isplitl [Hh]; · iexact Hh
  isplitl [Hpo0 Hpo1]
  · iapply (pointsTo_split_subset (Finset.subset_univ (plane0 d))).2
    rw [sdiff_plane0]
    isplitl [Hpo0] <;> iassumption
  isplitl [Hwo] <;> iassumption

end Cert.Proof

end
-- ==== Proof.Host.lean ====
/-
  The host program around the two calls: its operations before the SparseCore call, its reshapes before the TensorCore
  call, and the contents of every buffer from launch to end.
-/
module

public import proofs.«01_k».proof.Proof.Segment
public import proofs.«01_k».proof.Proof.Call

@[expose] public section

noncomputable section

namespace Cert.Proof

open Cert.KernelIdeal Cert.KernelIdeal.Gen

open Idealize.ShloMosaic Idealize.ShloMosaic.TcCoe Idealize.ShloMosaic.StableHlo
open Idealize.ShloMosaic.SparseCore.Cfg (HIx)
open Idealize.SL Idealize.SL.Sem

variable {F : FTy → Type} [FloatOps F]

/-! ## The host's operations -/

/-- Before the SparseCore call: the agent's number twice, the three arrays transposed and padded. -/
def opsA : List (HloOp τ sig (Elt F)) :=
  [ StableHlo.reshape main_arg5 main_v0 (rfl : (.i32 : EltTy) = .i32) shapeCasts_S_S1,
    StableHlo.reshape main_arg5 main_v1 (rfl : (.i32 : EltTy) = .i32) shapeCasts_S_S1,
    StableHlo.unary main_arg1 main_v2 ((transpose S3x110x10000 [2, 1, 0] · transposes_S10000x110x3_S3x110x10000_2_1_0) : (⟨S10000x110x3, .f32⟩ : BufTy).Contents (Elt F) → (⟨S3x110x10000, .f32⟩ : BufTy).Contents (Elt F)),
    StableHlo.unary main_arg2 main_v3 ((transpose S3x110x10000 [2, 1, 0] · transposes_S10000x110x3_S3x110x10000_2_1_0) : (⟨S10000x110x3, .f32⟩ : BufTy).Contents (Elt F) → (⟨S3x110x10000, .f32⟩ : BufTy).Contents (Elt F)),
    StableHlo.unary main_arg3 main_v4 ((transpose S110x10000 [1, 0] · transposes_S10000x110_S110x10000_1_0) : (⟨S10000x110, .f32⟩ : BufTy).Contents (Elt F) → (⟨S110x10000, .f32⟩ : BufTy).Contents (Elt F)),
    StableHlo.nullary main_cst (constant S_ .f32 0x00000000#32),
    StableHlo.binary main_v2 main_cst main_v5 ((fun x v => pad S3x110x10112 ![0, 0, 0] ![0, 0, 112] ![0, 0, 0] x v pads_S3x110x10000_S3x110x10112_000_000_01120 h_S_) : (⟨S3x110x10000, .f32⟩ : BufTy).Contents (Elt F) → (⟨S_, .f32⟩ : BufTy).Contents (Elt F) → (⟨S3x110x10112, .f32⟩ : BufTy).Contents (Elt F)),
    StableHlo.nullary main_cst_0 (constant S_ .f32 0x00000000#32),
    StableHlo.binary main_v3 main_cst_0 main_v6 ((fun x v => pad S3x110x10112 ![0, 0, 0] ![0, 0, 112] ![0, 0, 0] x v pads_S3x110x10000_S3x110x10112_000_000_01120 h_S_) : (⟨S3x110x10000, .f32⟩ : BufTy).Contents (Elt F) → (⟨S_, .f32⟩ : BufTy).Contents (Elt F) → (⟨S3x110x10112, .f32⟩ : BufTy).Contents (Elt F)),
    StableHlo.nullary main_cst_1 (constant S_ .f32 0x00000000#32),
    StableHlo.binary main_v4 main_cst_1 main_v7 ((fun x v => pad S110x10112 ![0, 0] ![0, 112] ![0, 0] x v pads_S110x10000_S110x10112_000_01120 h_S_) : (⟨S110x10000, .f32⟩ : BufTy).Contents (Elt F) → (⟨S_, .f32⟩ : BufTy).Contents (Elt F) → (⟨S110x10112, .f32⟩ : BufTy).Contents (Elt F)) ]

/-- Between the calls: reshapes. -/
def opsB : List (HloOp τ sig (Elt F)) :=
  [ StableHlo.reshape main_v8_0 main_v9 (rfl : (.f32 : EltTy) = .f32) shapeCasts_S2x110x128_S220x128,
    StableHlo.reshape main_v8_1 main_v10 (rfl : (.f32 : EltTy) = .f32) shapeCasts_S2x8x128_S16x128,
    StableHlo.reshape main_arg10 main_v11 (rfl : (.f32 : EltTy) = .f32) shapeCasts_S4096_S1x4096,
    StableHlo.reshape main_arg12 main_v12 (rfl : (.f32 : EltTy) = .f32) shapeCasts_S2048_S1x2048,
    StableHlo.reshape main_arg14 main_v13 (rfl : (.f32 : EltTy) = .f32) shapeCasts_S3_S1x3 ]

theorem main_eq (d : Dev nD) : main (F := F) d = seq opsA >>= fun _ => (sc (F := F)).run d 0 >>= fun _ => seq opsB >>= fun _ =>
    (Prog.lift (.customCall (SparseCore.inner (Pipeline.entry 0)) ()) : Prog (TpuEff nD τ sig (Elt F) (SparseCore.Sig (ΛP (F := F)) 1) .tc) PUnit) := rfl

/-! ## The buffers' contents -/

variable (m : (ℓ : Loc nD τ sig) → Buf (Elt F) ℓ)

/-- When the SparseCore call starts. -/
def VA (d : Dev nD) : Valuation τ sig (Elt F) := after opsA (launchContents m d)

/-- When it has ended. -/
def VG (d : Dev nD) : Valuation τ sig (Elt F) :=
  Function.update (Function.update (Function.update (VA m d) (Proc.devRef .tc (main_v8_0 : Ref sig .tc)) (posR (VA m) d))
    (Proc.devRef .tc (main_v8_1 : Ref sig .tc)) (velR (VA m) d)) (Proc.devRef .tc (main_v8_2 : Ref sig .tc)) (headR (VA m) d)

/-- When the TensorCore call starts. -/
def VC (d : Dev nD) : Valuation τ sig (Elt F) := after opsB (VG m d)

/-- The same, by the host program's references. -/
abbrev VT (c : Dev nD) (b : Ref sig .tc) : Buf (Elt F) ((c : Thread nD τ).loc b) := VC m c (Proc.devRef .tc b)

/-- At the end. -/
def VE (d : Dev nD) : Valuation τ sig (Elt F) :=
  Function.update (Function.update (VC m d) (Proc.devRef .tc (main_v14_0 : Ref sig .tc)) (meanV (VT m) d))
    (Proc.devRef .tc (main_v14_1 : Ref sig .tc)) (spreadV (VT m) d)

theorem ref_ne {a b : Ref sig .tc} (h : a ≠ b) : (Proc.devRef .tc a : DevRef τ sig) ≠ Proc.devRef .tc b :=
  fun e => h (Proc.devRef_injective _ e)

theorem VE_mean (d : Dev nD) : VE m d (Proc.devRef .tc (main_v14_0 : Ref sig .tc)) = meanV (VT m) d := by
  unfold VE
  rw [Function.update_of_ne (ref_ne (by decide)), Function.update_self]

theorem VE_spread (d : Dev nD) : VE m d (Proc.devRef .tc (main_v14_1 : Ref sig .tc)) = spreadV (VT m) d := by
  unfold VE
  rw [Function.update_self]

theorem VE_other (d : Dev nD) (b : Ref sig .tc) (h0 : b ≠ main_v14_0) (h1 : b ≠ main_v14_1) :
    VE m d (Proc.devRef .tc b) = VT m d b := by
  unfold VE
  rw [Function.update_of_ne (ref_ne h1), Function.update_of_ne (ref_ne h0)]

theorem VG_pos (d : Dev nD) : VG m d (Proc.devRef .tc (main_v8_0 : Ref sig .tc)) = posR (VA m) d := by
  unfold VG
  rw [Function.update_of_ne (ref_ne (by decide)), Function.update_of_ne (ref_ne (by decide)), Function.update_self]

theorem VG_vel (d : Dev nD) : VG m d (Proc.devRef .tc (main_v8_1 : Ref sig .tc)) = velR (VA m) d := by
  unfold VG
  rw [Function.update_of_ne (ref_ne (by decide)), Function.update_self]

theorem VG_head (d : Dev nD) : VG m d (Proc.devRef .tc (main_v8_2 : Ref sig .tc)) = headR (VA m) d := by
  unfold VG
  rw [Function.update_self]

theorem VG_other (d : Dev nD) (b : DevRef τ sig) (h0 : b ≠ Proc.devRef .tc (main_v8_0 : Ref sig .tc))
    (h1 : b ≠ Proc.devRef .tc (main_v8_1 : Ref sig .tc)) (h2 : b ≠ Proc.devRef .tc (main_v8_2 : Ref sig .tc)) : VG m d b = VA m d b := by
  unfold VG
  rw [Function.update_of_ne h2, Function.update_of_ne h1, Function.update_of_ne h0]

/-! ## Buffers the host's operations leave alone -/

theorem VA_other (d : Dev nD) (r : Ref sig .tc)
    (hr : r ∉ [main_v0, main_v1, main_v2, main_v3, main_v4, main_cst, main_v5, main_cst_0, main_v6, main_cst_1, main_v7]) :
    VA m d (Proc.devRef .tc r) = m ((d : Thread nD τ).loc r) :=
  after_of_writes_sub opsA (launchContents m d) (forall_writes_sub_of_map rfl) hr

theorem VC_other (d : Dev nD) (r : Ref sig .tc) (hr : r ∉ [main_v9, main_v10, main_v11, main_v12, main_v13]) :
    VC m d (Proc.devRef .tc r) = VG m d (Proc.devRef .tc r) :=
  after_of_writes_sub opsB (VG m d) (forall_writes_sub_of_map rfl) hr

/-- A buffer nothing writes holds at the end what it held at launch; so it does when the TensorCore call starts. -/
theorem VT_arg (d : Dev nD) (r : Ref sig .tc)
    (h1 : r ∉ [main_v0, main_v1, main_v2, main_v3, main_v4, main_cst, main_v5, main_cst_0, main_v6, main_cst_1, main_v7])
    (h2 : r ∉ [main_v9, main_v10, main_v11, main_v12, main_v13]) (h3 : r ∉ [main_v8_0, main_v8_1, main_v8_2]) :
    VT m d r = m ((d : Thread nD τ).loc r) := by
  simp only [List.mem_cons, List.not_mem_nil, or_false, not_or] at h3
  rw [show VT m d r = VC m d (Proc.devRef .tc r) from rfl, VC_other m d r h2, VG_other m d _ (ref_ne h3.1) (ref_ne h3.2.1) (ref_ne h3.2.2), VA_other m d r h1]

theorem VE_arg (d : Dev nD) (r : Ref sig .tc)
    (h1 : r ∉ [main_v0, main_v1, main_v2, main_v3, main_v4, main_cst, main_v5, main_cst_0, main_v6, main_cst_1, main_v7])
    (h2 : r ∉ [main_v9, main_v10, main_v11, main_v12, main_v13]) (h3 : r ∉ [main_v8_0, main_v8_1, main_v8_2])
    (h4 : r ∉ [main_v14_0, main_v14_1]) : VE m d (Proc.devRef .tc r) = m ((d : Thread nD τ).loc r) := by
  simp only [List.mem_cons, List.not_mem_nil, or_false, not_or] at h4
  rw [VE_other m d r h4.1 h4.2, VT_arg m d r h1 h2 h3]

/-! ## What the operations touch -/

theorem opsA_sub : ∀ op ∈ (opsA (F := F)), op.bufs ⊆ Pipeline.ucRefs τ sig := fun op h =>
  Pipeline.sub_ucRefs op ((List.forall_iff_forall_mem.mp (show (opsA (F := F)).Forall fun op => op.bufs ⊆ tcRefs τ sig from
    ⟨reshape_bufs_sub .., reshape_bufs_sub .., unary_bufs_sub .., unary_bufs_sub .., unary_bufs_sub .., nullary_bufs_sub ..,
      binary_bufs_sub .., nullary_bufs_sub .., binary_bufs_sub .., nullary_bufs_sub .., binary_bufs_sub ..⟩)) op h)

theorem opsB_sub : ∀ op ∈ (opsB (F := F)), op.bufs ⊆ Pipeline.ucRefs τ sig := fun op h =>
  Pipeline.sub_ucRefs op ((List.forall_iff_forall_mem.mp (show (opsB (F := F)).Forall fun op => op.bufs ⊆ tcRefs τ sig from
    ⟨reshape_bufs_sub .., reshape_bufs_sub .., reshape_bufs_sub .., reshape_bufs_sub .., reshape_bufs_sub ..⟩)) op h)

theorem opsA_fresh : ∀ op ∈ (opsA (F := F)), op.fresh = ∅ := fun op h =>
  (List.forall_iff_forall_mem.mp (show (opsA (F := F)).Forall fun op => op.fresh = ∅ from
    ⟨rfl, rfl, rfl, rfl, rfl, rfl, rfl, rfl, rfl, rfl, rfl⟩)) op h

theorem opsB_fresh : ∀ op ∈ (opsB (F := F)), op.fresh = ∅ := fun op h =>
  (List.forall_iff_forall_mem.mp (show (opsB (F := F)).Forall fun op => op.fresh = ∅ from ⟨rfl, rfl, rfl, rfl, rfl⟩)) op h

end Cert.Proof

end
-- ==== Proof.Main.lean ====
/-
  The host program's run: its operations, the SparseCore call, its reshapes, the TensorCore call; and the launch.
-/
module

public import proofs.«01_k».proof.Proof.Host

@[expose] public section

noncomputable section

namespace Cert.Proof

open Cert.KernelIdeal Cert.KernelIdeal.Gen

open Idealize.ShloMosaic Idealize.ShloMosaic.TcCoe Idealize.ShloMosaic.StableHlo
open Idealize.ShloMosaic.SparseCore.Cfg (HIx)
open Idealize.SL Idealize.SL.RA Idealize.SL.BI
open Idealize.SL.BI.BIBase Idealize.SL.BI.Laws Idealize.SL.ProofMode Idealize.SL.Sem
open scoped Idealize.SL.BI
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The SparseCore call's operands among the program's buffers -/

/-- Its four operands and three results. -/
def callRefs : Finset (DevRef τ sig) :=
  ({main_v1, main_v5, main_v6, main_v7, main_v8_0, main_v8_1, main_v8_2} : Finset (Ref sig .tc)).map ⟨Proc.devRef .tc, Proc.devRef_injective _⟩

theorem callRefs_sub : callRefs ⊆ Pipeline.ucRefs τ sig := by
  intro b hb
  obtain ⟨r, hr, rfl⟩ := Finset.mem_map.mp hb
  refine Finset.mem_filter.mpr ⟨devRef_mem_tcRefs r, ?_⟩
  revert r
  decide

omit [FloatOps F] in
theorem held_callRefs (d : Dev nD) (W : Valuation τ sig (Elt F)) :
    (held (SparseCore.T d) callRefs W : sProp 𝕄)
      = iprop((iLoc d ↦{fullShare} W (Proc.devRef .tc (main_v1 : Ref sig .tc))) ∗ (pLoc d ↦{fullShare} W (Proc.devRef .tc (main_v5 : Ref sig .tc)))
        ∗ (wLoc d ↦{fullShare} W (Proc.devRef .tc (main_v6 : Ref sig .tc))) ∗ (hLoc d ↦{fullShare} W (Proc.devRef .tc (main_v7 : Ref sig .tc)))
        ∗ (poLoc d ↦{fullShare} W (Proc.devRef .tc (main_v8_0 : Ref sig .tc))) ∗ (woLoc d ↦{fullShare} W (Proc.devRef .tc (main_v8_1 : Ref sig .tc)))
        ∗ hoLoc d ↦{fullShare} W (Proc.devRef .tc (main_v8_2 : Ref sig .tc))) := by
  unfold held callRefs
  rw [bigSep_map, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The call takes its operands out of the program's buffers. -/
theorem take (d : Dev nD) :
    (held (SparseCore.T d) (Pipeline.ucRefs τ sig) (VA m d) : sProp 𝕄)
      ⊢ iprop((bigSep Finset.univ fun c : Fin ((K (F := F)).nCore 0) => (P (VA m)).st 0 d c)
        ∗ held (SparseCore.T d) (Pipeline.ucRefs τ sig \ callRefs) (VA m d)) := by
  rw [held_sub_split (SparseCore.T d) callRefs_sub, held_callRefs]
  exact BIClass.sep_mono (call_in (VA m) d _ _ _) .rfl

/-- It gives them back with the results. -/
theorem give (d : Dev nD) :
    iprop((bigSep Finset.univ fun c : Fin ((K (F := F)).nCore 0) => (P (VA m)).dn 0 d c)
        ∗ held (SparseCore.T d) (Pipeline.ucRefs τ sig \ callRefs) (VA m d))
      ⊢ (held (SparseCore.T d) (Pipeline.ucRefs τ sig) (VG m d) : sProp 𝕄) := by
  rw [held_sub_split (SparseCore.T d) callRefs_sub (VG m d), held_callRefs, VG_pos, VG_vel, VG_head,
    VG_other m d _ (ref_ne (by decide)) (ref_ne (by decide)) (ref_ne (by decide)),
    VG_other m d _ (ref_ne (by decide)) (ref_ne (by decide)) (ref_ne (by decide)),
    VG_other m d _ (ref_ne (by decide)) (ref_ne (by decide)) (ref_ne (by decide)),
    VG_other m d _ (ref_ne (by decide)) (ref_ne (by decide)) (ref_ne (by decide)),
    held_congr (SparseCore.T d) (V := VG m d) (V' := VA m d)]
  · exact BIClass.sep_mono (call_out (VA m) d) .rfl
  · intro b hb
    have hn : ∀ r ∈ ({main_v1, main_v5, main_v6, main_v7, main_v8_0, main_v8_1, main_v8_2} : Finset (Ref sig .tc)), b ≠ Proc.devRef .tc r :=
      fun r hr e => (Finset.mem_sdiff.mp hb).2 (Finset.mem_map.mpr ⟨r, hr, e.symm⟩)
    exact VG_other m d b (hn _ (by decide)) (hn _ (by decide)) (hn _ (by decide))

/-! ## The launch element of the ghost state -/

/-- The tables of the TensorCore call, as the program has them when it gets there. -/
abbrev tbl := tables (F := F) (VT m)
abbrev pinned := Pipeline.pin (pcfgs (F := F)) (tbl m)

def u₀ : UU := (initOf (K (F := F)).hsCells (K (F := F)).hsToks,
  (initOf (Pipeline.cells (pinned m) (cellOf_inj (tbl m))) (Pipeline.launchToks (pinned m) (cellOf_inj (tbl m))), 1))

/-- What each device is dealt for its TensorCore call. -/
def ghost (d : Dev nD) : sProp 𝕄 := iprop(Pipeline.cellsGhost (pinned m) EP 0 d ∗ Pipeline.toksInit (pinned m) EP 0 d)

theorem deal :
    (iprop((bigSep Finset.univ fun c : Dev nD => bigSep Finset.univ fun p : Fin 1 => Pipeline.cellsGhost (pinned m) EP p c)
        ∗ bigSep Finset.univ fun c : Dev nD => bigSep Finset.univ fun p : Fin 1 => Pipeline.toksInit (pinned m) EP p c) : sProp 𝕄)
      ⊢ bigSep Finset.univ (ghost m) := by
  rw [show (bigSep Finset.univ fun c : Dev nD => bigSep Finset.univ fun p : Fin 1 => Pipeline.cellsGhost (pinned m) EP p c)
      = bigSep Finset.univ fun c : Dev nD => (Pipeline.cellsGhost (pinned m) EP 0 c : sProp 𝕄) from
      bigSep_congr fun _ _ => bigSep_univ_of_subsingleton (0 : Fin 1),
    show (bigSep Finset.univ fun c : Dev nD => bigSep Finset.univ fun p : Fin 1 => Pipeline.toksInit (pinned m) EP p c)
      = bigSep Finset.univ fun c : Dev nD => (Pipeline.toksInit (pinned m) EP 0 c : sProp 𝕄) from
      bigSep_congr fun _ _ => bigSep_univ_of_subsingleton (0 : Fin 1),
    ← bigSep_sep']
  exact .rfl

omit [FloatOps F] in
theorem bigSep_emp' {I : Type} (s : Finset I) : (bigSep s fun _ => iprop(emp)) = (iprop(emp) : sProp 𝕄) := bigSep_emp_const s

theorem hu₀ : (ownU (u₀ m) : sProp 𝕄)
    ⊢ |={Set.univ}=> iprop(BI.own (EH (initOf (K (F := F)).hsCells (K (F := F)).hsToks)) ∗ (bigSep Finset.univ (ghost m))
        ∗ bigSep Finset.univ fun thr : Thread nD τ => bigSep Finset.univ fun q : Fin 1 => (P (VA m)).x q thr) := by
  unfold u₀
  iintro Hu
  ihave H := (ownU_pair (initOf (K (F := F)).hsCells (K (F := F)).hsToks)
    (initOf (Pipeline.cells (pinned m) (cellOf_inj (tbl m))) (Pipeline.launchToks (pinned m) (cellOf_inj (tbl m))), (1 : Counters))) $$ Hu
  icases H with ⟨HH, HR⟩
  ihave H := (own_pair_emb embR _ _) $$ HR
  icases H with ⟨HP, -⟩
  imod (Pipeline.fund_ghost (pinned m) EP (cellOf_inj (tbl m))) $$ HP with ⟨Hc, Ht⟩
  imodintro
  isplitl [HH]; · iexact HH
  isplitl [Hc Ht]
  · iapply (deal m)
    isplitl [Hc]; · iexact Hc
    iexact Ht
  rw [show (bigSep Finset.univ fun thr : Thread nD τ => bigSep Finset.univ fun q : Fin 1 => (P (VA m)).x q thr)
      = bigSep Finset.univ fun _ => (iprop(emp) : sProp 𝕄) from
      bigSep_congr fun _ _ => bigSep_univ_of_subsingleton (0 : Fin 1), bigSep_emp']
  iempintro

/-! ## The host program -/

/-- The TensorCore call in this program. -/
def seg := call (F := F) (VT m) (fun c b => VE m c (Proc.devRef .tc b)) (VE_mean m) (VE_spread m) (VE_other m)

/-- What the program ends holding. -/
def FIN (d : Dev nD) : sProp 𝕄 := held (SparseCore.T d) (Pipeline.ucRefs τ sig) (VE m d)

/-- The TensorCore's state after its only SparseCore call: its debts, and the rest. -/
def rest1 (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_one (d : Dev nD) : ((K (F := F)).tcSt EH d 1 : sProp 𝕄) = iprop(debts (F := F) d ∗ rest1 d) := by
  unfold SparseCore.Cfg.tcSt
  rw [(K (F := F)).Otc_end d (le_refl 1)]
  rfl

omit [FloatOps F] in
theorem no_levels : (BI.emp : sProp 𝕄) ⊢ levAts L lv := by
  unfold levAts
  simp only [L, bigSep_empty]
  rw [bigSep_emp_const]

/-- The TensorCore call as @main makes it: from every buffer at `VC` and no debts to every buffer at `VE` and none. -/
theorem run_call [∀ e, Nonempty (Elt F e)] (d : Dev nD) {Φ : PUnit → sProp 𝕄} :
    iprop(boundary (SparseCore.T d) ∗ held (SparseCore.T d) (Pipeline.ucRefs τ sig) (VC m d) ∗ debts (F := F) d ∗ ghost m d
        ∗ ((boundary (SparseCore.T d) ∗ FIN m d ∗ debts (F := F) d) -∗ Φ ⟨⟩))
      ⊢ wp frame (wpE ((K (F := F)).defs (D (F := F))) 𝒱 (SparseCore.T d) none) Set.univ
          (Prog.lift (.customCall (SparseCore.inner (Pipeline.entry 0)) ())
            : Prog (TpuEff nD τ sig (Elt F) (SparseCore.Sig (ΛP (F := F)) 1) .tc) PUnit) Φ := by
  rw [show (Prog.lift (.customCall (SparseCore.inner (Pipeline.entry 0)) ())
      : Prog (TpuEff nD τ sig (Elt F) (SparseCore.Sig (ΛP (F := F)) 1) .tc) PUnit)
    = SparseCore.liftProg (Prog.lift (.customCall (Pipeline.entry 0) ()) : Prog (TpuEff nD τ sig (Elt F) (ΛP (F := F)) .tc) PUnit) from rfl]
  refine BI.Entails.trans ?_ ((K (F := F)).wp_liftProg (D (F := F)) 𝒱 (SparseCore.T d) Set.univ none
    (Prog.lift (.customCall (Pipeline.entry 0) ()) : Prog (TpuEff nD τ sig (Elt F) (ΛP (F := F)) .tc) PUnit) Φ)
  have h := Pipeline.RegionSeg.wp (pcfgs (F := F)) (tbl m) (pdats (VT m)) none (cellOf_inj (tbl m)) EP defs₀ 𝒱₀ L lv (seg m) d none
    (fun _ h => nomatch h) (fun _ => .ret ⟨⟩) Φ
  have h1 : (iprop(boundary (SparseCore.T d) ∗ held (SparseCore.T d) (Pipeline.ucRefs τ sig) (VC m d) ∗ debts (F := F) d ∗ ghost m d
        ∗ ((boundary (SparseCore.T d) ∗ FIN m d ∗ debts (F := F) d) -∗ Φ ⟨⟩)) : sProp 𝕄)
      ⊢ iprop(((boundary (d.tc : Thread nD τ) ∗ (seg m).post d) -∗ wp frame (wpE (D (F := F)) 𝒱 (d.tc : Thread nD τ) none) Set.univ
            (Prog.ret PUnit.unit : Prog (TpuEff nD τ sig (Elt F) (ΛP (F := F)) .tc) PUnit) Φ)
          ∗ boundary (d.tc : Thread nD τ) ∗ (seg m).pre d ∗ levAts L lv
          ∗ Pipeline.cellsGhost (Pipeline.pin (pcfgs (F := F)) (tbl m)) EP 0 d ∗ Pipeline.toksInit (Pipeline.pin (pcfgs (F := F)) (tbl m)) EP 0 d) := by
    rw [show (seg m).pre d = iprop(unscopedBufs d (VT m d) ∗ debts (F := F) d) from rfl,
      show (seg m).post d = iprop(unscopedBufs d (fun b => VE m d (Proc.devRef .tc b)) ∗ debts (F := F) d) from rfl]
    unfold ghost
    iintro ⟨Hb, Hh, HO, ⟨Hc, Ht⟩, Hk⟩
    isplitl [Hk]
    · iintro ⟨Hb, Hu, HO⟩
      rw [wp_ret]; imodintro
      iapply Hk
      isplitl [Hb]; · iexact Hb
      isplitl [Hu]; · iapply (Entails.of_eq (show _ = FIN m d from Pipeline.unscopedBufs_held d (VE m d))); iexact Hu
      iexact HO
    isplitl [Hb]; · iexact Hb
    isplitl [Hh HO]
    · isplitl [Hh]; · iapply (Entails.of_eq (Pipeline.unscopedBufs_held d (VC m d)).symm); iexact Hh
      iexact HO
    isplitr; · iapply no_levels; iempintro
    isplitl [Hc]; · iexact Hc
    iexact Ht
  exact BI.Entails.trans h1 h

set_option backward.isDefEq.respectTransparency.types false in
/-- @main on device `d`'s TensorCore. -/
theorem hmain [∀ e, Nonempty (Elt F e)] (κ : GSem nD τ sig → ℕ) (d : Dev nD) :
    iprop((K (F := F)).ctx EH (P (VA m)) κ ∗ (K (F := F)).tcSt EH d 0 ∗ (K (F := F)).tcRes m ρ d ∗ ghost m d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (Pipeline.ucRefs τ sig) (launchContents m d)
    from Pipeline.unscopedBufs_held d (launchContents m d)]
  iintro ⟨#Hctx, Hst, ⟨Hb, Hh, Hts, -⟩, HG⟩
  iapply (wp_seq 𝒱 none Set.univ d (Pipeline.ucRefs τ sig) _ opsA opsA_sub opsA_fresh (launchContents m d)) $$ [Hb Hh]
  · isplitl [Hb]; · iexact Hb
    iexact Hh
  iintro ⟨Hb, Hh⟩
  ihave H := (show (held (SparseCore.T d) (Pipeline.ucRefs τ sig) (after opsA (launchContents m d)) : sProp 𝕄) ⊢ _ from take m d) $$ Hh
  icases H with ⟨Hpay, Hh⟩
  rw [wp_bind]
  iapply ((K (F := F)).wp_run (D (F := F)) 𝒱 (EH := EH) (P := P (VA m)) κ d 0) $$ [Hst Hpay Hh Hb Hts HG]
  isplitr; · iexact Hctx
  isplitl [Hst]; · iexact Hst
  isplitl [Hpay]; · iexact Hpay
  iintro ⟨Hst, Hdn⟩
  ihave Hh := (give m d) $$ [Hdn Hh]
  · isplitl [Hdn]; · iexact Hdn
    iexact Hh
  iapply (wp_seq 𝒱 none Set.univ d (Pipeline.ucRefs τ sig) _ opsB opsB_sub opsB_fresh (VG m d)) $$ [Hb Hh]
  · isplitl [Hb]; · iexact Hb
    iexact Hh
  iintro ⟨Hb, Hh⟩
  ihave Hst := (show ((K (F := F)).tcSt EH d ((0 : Fin 1).val + 1) : sProp 𝕄) ⊢ _ from Entails.of_eq (tcSt_one d)) $$ Hst
  icases Hst with ⟨HO, Hr⟩
  iapply (run_call m d)
  isplitl [Hb]; · iexact Hb
  isplitl [Hh]
  · iapply (show (held (SparseCore.T d) (Pipeline.ucRefs τ sig) (after opsB (VG m d)) : sProp 𝕄)
      ⊢ held (SparseCore.T d) (Pipeline.ucRefs τ sig) (VC m d) from .rfl)
    iexact Hh
  isplitl [HO]; · iexact HO
  isplitl [HG]; · iexact HG
  iintro ⟨Hb, Hfin, HO⟩
  isplitl [HO Hr]
  · iapply (Entails.of_eq (tcSt_one d).symm)
    isplitl [HO]; · iexact HO
    iexact Hr
  isplitl [Hfin]; · iexact Hfin
  isplitl [Hb]; · iexact Hb
  iexact Hts

/-! ## The launch -/

/-- What is read off the last state of a device: every buffer of the program. -/
def fq (d : Dev nD) (s : Phys nD τ sig (Elt F)) : Prop := ∀ b ∈ Pipeline.ucRefs τ sig, s.mem.mem (d, b) = VE m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- Every run from `m` with the agent's number in range ends, every counter at zero, every buffer of the program at `VE`. -/
theorem run_main [∀ e, Nonempty (Elt F e)] (hA : ∀ d, (agent (VA m) d).toNat < 10000) :
    θ_run (Cert.KernelIdeal.defs (F := F)) (Cert.KernelIdeal.threads (F := F)) ⟨m, fun _ => 0, ρ⟩
      (fun r => (∀ d, ∀ b ∈ Pipeline.ucRefs τ sig, r.2.mem (d, b) = VE m d b) ∧ r.2.sem = fun _ => 0) :=
  SparseCore.Cfg.θ_run_sc_quiescent (K := K (F := F)) (D := D (F := F)) (𝒱 := 𝒱) (EH := EH) (P := P (VA m)) (A := ∅) facts v₀
    (fun q _ => match q with | 0 => scalarObl (VA m) hA)
    (fun q hq => match q with | 0 => nomatch hq)
    (fun q hq => match q with | 0 => nomatch hq)
    m ρ main (ghost m) (FIN m) (u₀ m) (sep_elim_left.trans (hu₀ m)) (hmain m ρ) (fq m) (hfin m) _ (fun _ h hz => ⟨h, hz⟩)

end Cert.Proof

end
-- ==== Proof.Frames.lean ====
/-
  The frames: every run of the kernel, as printed and as idealized, ends with its arguments unchanged and its counters
  at zero, from one run; and the reference's.
-/
module

public import proofs.«01_k».proof.Defs
public import proofs.«01_k».proof.Proof.Main
public import proofs.«01_k».proof.Proof.Gen.Kernel
public import proofs.«01_k».proof.Proof.Gen.ReferenceIdeal
public import proofs.«01_k».proof.Proof.Gen.ReferenceIdeal.Run

@[expose] public section

noncomputable section

namespace Cert.Proof

open Cert.KernelIdeal Cert.KernelIdeal.Gen

open Idealize.ShloMosaic Idealize.ShloMosaic.TcCoe Idealize.ShloMosaic.StableHlo Idealize.SL.Sem
open Idealize.ShloMosaic.ValueIdx

variable {F : FTy → Type} [FloatOps F]
variable (m : (ℓ : Loc nD τ sig) → Buf (Elt F) ℓ)

/-! ## The agent's number -/

/-- The agent's number, as launched. -/
def number (d : Dev nD) : BitVec 32 := (m ((d : Thread nD τ).loc main_arg5) : S_.Idx → BitVec 32) ix0

theorem VA_table (d : Dev nD) :
    (VA m d (Proc.devRef .tc (main_v0 : Ref sig .tc)) : KernelIdeal.S1.Idx → BitVec 32) (ix1 0) = number m d := by
  rw [show VA m d (Proc.devRef .tc (main_v0 : Ref sig .tc))
    = (shapeCast KernelIdeal.S1 (m ((d : Thread nD τ).loc main_arg5) : Vec F S_ .i32) shapeCasts_S_S1 : Vec F KernelIdeal.S1 .i32) from by
      unfold VA opsA; after_results; rfl]
  exact congrArg (m ((d : Thread nD τ).loc main_arg5) : S_.Idx → BitVec 32) (eq_ix0 _)

theorem VA_agent (d : Dev nD) : agent (VA m) d = number m d := by
  show (VA m d (Proc.devRef .tc (main_v1 : Ref sig .tc)) : KernelIdeal.S1.Idx → BitVec 32) (ix1 0) = number m d
  rw [show VA m d (Proc.devRef .tc (main_v1 : Ref sig .tc))
    = (shapeCast KernelIdeal.S1 (m ((d : Thread nD τ).loc main_arg5) : Vec F S_ .i32) shapeCasts_S_S1 : Vec F KernelIdeal.S1 .i32) from by
      unfold VA opsA; after_results; rfl]
  exact congrArg (m ((d : Thread nD τ).loc main_arg5) : S_.Idx → BitVec 32) (eq_ix0 _)

/-- A word that is at least zero and below ten thousand, both signed, is its own value, below ten thousand. -/
theorem word_in_range (v : BitVec 32) (e : IntOp.andi (IntOp.cmpi .sge v 0#32) (IntOp.cmpi .slt v 10000#32) = 1#1) : v.toNat < 10000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-! ## The claims' preconditions -/

instance preFacts : Cert.Pre_agent_in_range.Facts where

theorem in_range_bits (m : (ℓ : Loc nD τ sig) → Buf (Elt Bits) ℓ) (h : Cert.Pre_Kernel m) (d : Dev nD) : (number m d).toNat < 10000 := by
  have e := congrFun (h d) ix0
  simp only [Cert.Pre_agent_in_range.fn, andi, cmpi, constantI] at e
  exact word_in_range _ e

theorem in_range_ideal (m : (ℓ : Loc nD τ sig) → Buf (Elt Ideal) ℓ) (h : Cert.Pre_KernelIdeal m) (d : Dev nD) : (number m d).toNat < 10000 := by
  have e := congrFun (h d) ix0
  simp only [Cert.Pre_agent_in_range.fn, andi, cmpi, constantI] at e
  exact word_in_range _ e

/-! ## The frames -/

abbrev args : List (Ref sig .tc) :=
  [main_arg0, main_arg1, main_arg2, main_arg3, main_arg4, main_arg5, main_arg6, main_arg7, main_arg8, main_arg9, main_arg10,
    main_arg11, main_arg12, main_arg13, main_arg14]

theorem args_kept : ∀ r ∈ args, (r ∉ [main_v0, main_v1, main_v2, main_v3, main_v4, main_cst, main_v5, main_cst_0, main_v6, main_cst_1, main_v7]
    ∧ r ∉ [main_v9, main_v10, main_v11, main_v12, main_v13]) ∧ (r ∉ [main_v8_0, main_v8_1, main_v8_2] ∧ r ∉ [main_v14_0, main_v14_1]) := by
  decide

theorem args_plain : ∀ r ∈ args, ¬ (Proc.devRef (τ := τ) .tc r).isScoped = true := by decide

/-- An argument in a state that has every buffer of the program at `VE`. -/
theorem arg_end (mem : (ℓ : Loc nD τ sig) → Buf (Elt F) ℓ) (h : ∀ d, ∀ b ∈ Pipeline.ucRefs τ sig, mem (d, b) = VE m d b)
    (d : Dev nD) (r : Ref sig .tc) (hr : r ∈ args) : mem ((d : Thread nD τ).loc r) = m ((d : Thread nD τ).loc r) := by
  have h1 := args_kept r hr
  refine (h d _ (Finset.mem_filter.mpr ⟨devRef_mem_tcRefs r, args_plain r hr⟩)).trans ?_
  exact VE_arg m d r h1.1.1 h1.1.2 h1.2.1 h1.2.2

/-- The run, read at the arguments and the counters. -/
theorem frame_run [∀ e, Nonempty (Elt F e)] (ρ : Dev nD → PrngReg) (hp : ∀ d, (number m d).toNat < 10000) :
    θ_run (Cert.KernelIdeal.defs (F := F)) (Cert.KernelIdeal.threads (F := F)) ⟨m, fun _ => 0, ρ⟩
      (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)
        ∧ r.2.mem ((c : Thread nD τ).loc main_arg9) = m ((c : Thread nD τ).loc main_arg9)
        ∧ r.2.mem ((c : Thread nD τ).loc main_arg10) = m ((c : Thread nD τ).loc main_arg10)
        ∧ r.2.mem ((c : Thread nD τ).loc main_arg11) = m ((c : Thread nD τ).loc main_arg11)
        ∧ r.2.mem ((c : Thread nD τ).loc main_arg12) = m ((c : Thread nD τ).loc main_arg12)
        ∧ r.2.mem ((c : Thread nD τ).loc main_arg13) = m ((c : Thread nD τ).loc main_arg13)
        ∧ r.2.mem ((c : Thread nD τ).loc main_arg14) = m ((c : Thread nD τ).loc main_arg14))
        ∧ r.2.sem = fun _ => 0) :=
  (θ_run Cert.KernelIdeal.defs _ _).mono (fun r h => ⟨fun c => by
      have k := arg_end m r.2.mem h.1 c
      exact ⟨k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide)⟩, h.2⟩)
    (run_main m ρ fun d => by rw [VA_agent]; exact hp d)

theorem frame_ideal : Cert.quiescent_KernelIdeal := fun m ρ hp => frame_run (F := Ideal) m ρ (in_range_ideal m hp)

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

theorem frame_reference_pre : Cert.quiescent_ReferenceIdeal_pre_agent_in_range := fun m ρ _ => frame_reference m ρ trivial

end Cert.Proof

end
-- ==== Proof.SameDefs.lean ====
/-
  The printed program at the machine's floats and the idealized program taken at the same floats declare the same bodies.
-/
module

public import proofs.«01_k».proof.Proof.Setup
public import proofs.«01_k».proof.Proof.Gen.Kernel

@[expose] public section

noncomputable section

namespace Cert.Proof

open Idealize.ShloMosaic Idealize.SL.Sem

set_option maxHeartbeats 4000000 in -- two whole kernel bodies are compared
set_option backward.isDefEq.respectTransparency.types false in
theorem same_defs0 : Cert.Kernel.defs₀ (F := Bits) = Cert.KernelIdeal.defs₀ (F := Bits) := by
  funext pr ℓ a
  match pr, ℓ, a with
  | .scScalar c, 0, _ => exact rfl
  | .scScalar c, 1, _ => exact rfl
  | .scVector c s, 0, _ => exact rfl
  | .scVector c s, 1, _ => exact rfl
  | .tc, 0, _ => exact rfl
  | .tc, 1, (t, s) => exact rfl

set_option maxHeartbeats 4000000 in -- the whole configuration of both calls is compared
set_option backward.isDefEq.respectTransparency.types false in
theorem same_defs : Cert.Kernel.defs (F := Bits) = Cert.KernelIdeal.defs (F := Bits) :=
  (congrArg (fun d => Cert.Kernel.sc.defs (Pipeline.defs (Cert.Kernel.pcfgs (F := Bits)) d)) same_defs0).trans (by exact rfl)

end Cert.Proof

end
-- ==== Proof.SameMain.lean ====
/-
  The printed program at the machine's floats and the idealized program taken at the same floats have the same host program.
-/
module

public import proofs.«01_k».proof.Proof.Setup
public import proofs.«01_k».proof.Proof.Gen.Kernel

@[expose] public section

noncomputable section

namespace Cert.Proof

open Idealize.ShloMosaic Idealize.SL.Sem

set_option maxHeartbeats 4000000 in -- the whole host program is compared
set_option backward.isDefEq.respectTransparency.types false in
theorem same_main : Cert.Kernel.main (F := Bits) = Cert.KernelIdeal.main (F := Bits) := by exact rfl

set_option maxHeartbeats 4000000 in -- the whole configuration of both calls is compared
set_option backward.isDefEq.respectTransparency.types false in
theorem same_threads : Cert.Kernel.threads (F := Bits) = Cert.KernelIdeal.threads (F := Bits) :=
  (congrArg (fun p => Cert.Kernel.sc.threads p) same_main).trans (by exact rfl)

end Cert.Proof

end
-- ==== Proof.FrameKernel.lean ====
/-
  The frame of the kernel as printed: the one run taken at the machine's floats.
-/
module

public import proofs.«01_k».proof.Proof.Frames
public import proofs.«01_k».proof.Proof.Gen.Kernel
public import proofs.«01_k».proof.Proof.SameDefs
public import proofs.«01_k».proof.Proof.SameMain

@[expose] public section

noncomputable section

namespace Cert.Proof

open Idealize.ShloMosaic Idealize.SL.Sem

set_option maxHeartbeats 4000000 in -- the signatures of the two programs are compared
set_option backward.isDefEq.respectTransparency.types false in
theorem frame_kernel : Cert.quiescent_Kernel := fun m ρ hp => by
  rw [same_defs, same_threads]
  exact frame_run (F := Bits) m ρ (in_range_bits m hp)

end Cert.Proof

end
-- ==== Proof.Model.lean ====
/-
  What both programs compute for one agent, over the extended reals: a function of the agent's rows of the tables, the
  planned states and the weights.
-/
module

public import Idealize.ShloMosaic.Lib.Pointwise
public import Idealize.ShloMosaic.Lib.IdealHost

@[expose] public section

noncomputable section

namespace Cert.Proof

open Idealize.ShloMosaic

/-- One agent's rows and the weights. -/
structure Inputs where
  /-- The sixty planned states: position and velocity. -/
  plan : Fin 60 → Fin 4 → EReal
  /-- The agent's recorded positions, velocities and headings. -/
  pos : Fin 110 → Fin 3 → EReal
  vel : Fin 110 → Fin 3 → EReal
  head : Fin 110 → EReal
  /-- The encoder's weights, the decoders' of positions and of headings. -/
  wEnc : Fin 220 → Fin 512 → EReal
  wPos : Fin 512 → Fin 720 → EReal
  wHead : Fin 512 → Fin 360 → EReal
  /-- The three layers' weights and biases. -/
  w1 : Fin 3 → Fin 4096 → EReal
  b1 : Fin 4096 → EReal
  w2 : Fin 4096 → Fin 2048 → EReal
  b2 : Fin 2048 → EReal
  w3 : Fin 2048 → Fin 3 → EReal
  b3 : Fin 3 → EReal

namespace Inputs

variable (x : Inputs)

/-- The agent's positions with the planned ones in place of the last sixty. -/
def track (t : Fin 110) (c : Fin 2) : EReal :=
  if h : 50 ≤ t.val then x.plan ⟨t.val - 50, by omega⟩ ⟨c.val, by omega⟩ else x.pos t ⟨c.val, by omega⟩

/-- The encoder's output. -/
def code (k : Fin 512) : EReal :=
  Ideal.tanh (∑ i : Fin 220, x.track ⟨i.val / 2, by omega⟩ ⟨i.val % 2, by omega⟩ * x.wEnc i k)

/-- The first mode's decoded coordinates, in the agent's frame. -/
def ahead (t : Fin 60) : EReal := ∑ k : Fin 512, x.code k * x.wPos k ⟨t.val * 2, by omega⟩
def aside (t : Fin 60) : EReal := ∑ k : Fin 512, x.code k * x.wPos k ⟨t.val * 2 + 1, by omega⟩

/-- The heading at the last observed time. -/
def yaw : EReal := x.head 49

/-- The decoded coordinates turned by the heading and moved to the agent's position. -/
def pathX (t : Fin 60) : EReal := x.ahead t * Ideal.cos x.yaw - x.aside t * Ideal.sin x.yaw + x.pos 49 0
def pathY (t : Fin 60) : EReal := x.ahead t * Ideal.sin x.yaw + x.aside t * Ideal.cos x.yaw + x.pos 49 1

/-- First differences: of the first from a start, of the others at a tenth of a second. -/
def diff (f : Fin 60 → EReal) (o : EReal) (t : Fin 60) : EReal :=
  if t.val < 1 then f t - o else (f t - f ⟨t.val - 1, by omega⟩) * Ideal.ofBits .f32 0x41200000#32

/-- Accelerations. -/
def accX : Fin 60 → EReal := diff (diff x.pathX (x.pos 49 0)) (x.vel 49 0)
def accY : Fin 60 → EReal := diff (diff x.pathY (x.pos 49 1)) (x.vel 49 1)

/-- An angle brought between minus pi and pi, pi as its float, shifted by pi. -/
def wrap (v : EReal) : EReal :=
  let r : EReal := Ideal.remf v (Ideal.ofBits .f32 0x40C90FDB#32)
  (Scalar.select (IntOp.andi (IntOp.xori (Ideal.cmp .olt r 0) (Ideal.cmp .olt (Ideal.ofBits .f32 0x40C90FDB#32) 0)) (Ideal.cmp .one r 0))
    (r + Ideal.ofBits .f32 0x40C90FDB#32) r : EReal) - Ideal.ofBits .f32 0x40490FDB#32

/-- The decoded headings. -/
def turn (t : Fin 60) : EReal :=
  wrap (∑ k : Fin 512, x.code k * x.wHead k ⟨t.val, by omega⟩ + x.yaw + Ideal.ofBits .f32 0x40490FDB#32)

/-- The network's input. -/
def input (t : Fin 60) (c : Fin 3) : EReal := if c.val < 1 then x.turn t else if c.val < 2 then x.accX t else x.accY t

/-- The first layer, the second and the third. -/
def first (t : Fin 60) (j : Fin 4096) : EReal :=
  max (x.input t 0 * x.w1 0 j + x.input t 1 * x.w1 1 j + x.input t 2 * x.w1 2 j + x.b1 j) 0
def second (t : Fin 60) (j : Fin 2048) : EReal := ∑ k : Fin 4096, x.first t k * x.w2 k j + x.b2 j
def third (t : Fin 60) (c : Fin 3) : EReal := ∑ k : Fin 2048, x.second t k * x.w3 k c + x.b3 c

/-- The two results: the bounded mean and the positive spread. -/
def mean (t : Fin 60) (c : Fin 3) : EReal := Ideal.tanh (x.third t c)
def spread (t : Fin 60) (c : Fin 3) : EReal :=
  Ideal.log1p (Ideal.exp (0 - max (x.third t c) (-(x.third t c)))) + max (x.third t c) 0 + Ideal.ofBits .f32 0x322BCC77#32

end Inputs

/-! ## Two facts of the float ten -/

theorem ten : Ideal.ofBits .f32 0x41200000#32 = ((10 : ℝ) : EReal) := by
  simp [Ideal.ofBits, Ideal.ieee, -EReal.coe_mul]; norm_num

/-- Dividing by a tenth is multiplying by ten. -/
theorem div_tenth (v : EReal) :
    Ideal.div v (Ideal.div (Ideal.ofBits .f32 0x3F800000#32) (Ideal.ofBits .f32 0x41200000#32)) = v * Ideal.ofBits .f32 0x41200000#32 := by
  have h10 : ((10 : ℝ) : EReal) ≠ 0 := by exact_mod_cast (by norm_num : (10 : ℝ) ≠ 0)
  have hi : ((10 : ℝ) : EReal)⁻¹ = ((10⁻¹ : ℝ) : EReal) := (EReal.coe_inv 10).symm
  have hn : ((10⁻¹ : ℝ) : EReal) ≠ 0 := by exact_mod_cast (by norm_num : (10⁻¹ : ℝ) ≠ 0)
  have h1 : Ideal.div 1 ((10 : ℝ) : EReal) = ((10⁻¹ : ℝ) : EReal) := by
    unfold Ideal.div; rw [if_neg h10, one_mul, hi]
  rw [ten, Ideal.ofBits_one_f32, h1]
  unfold Ideal.div
  rw [if_neg hn, ← EReal.coe_inv, inv_inv]

end Cert.Proof

end
-- ==== Proof.Lanes.lean ====
/-
  Two ways the TensorCore kernel picks an entry by summing: a lane by a mask, a column by a matrix of zeros and ones; and
  the lane of an agent's number.
-/
module

public import proofs.«01_k».proof.Proof.Words
public import proofs.«01_k».proof.Proof.Model

@[expose] public section

noncomputable section

namespace Cert.Proof

open Idealize.ShloMosaic

/-- The lane of an agent's number. -/
def lane (w : BitVec 32) : Fin 128 := ⟨w.toNat % 128, Nat.mod_lt _ (by decide)⟩

/-- The lane as the kernel computes it: the remainder by 128, corrected to the divisor's sign. -/
theorem lane_word {w : BitVec 32} (h : w.toNat < 10000) :
    Scalar.select (Scalar.andi (Scalar.xori (Scalar.cmpi .slt (Scalar.remsi w (Scalar.select (Scalar.cmpi .eq 128#32 0#32) 1#32 128#32)) 0#32)
          (Scalar.cmpi .slt (Scalar.select (Scalar.cmpi .eq 128#32 0#32) 1#32 128#32) 0#32))
        (Scalar.cmpi .ne (Scalar.remsi w (Scalar.select (Scalar.cmpi .eq 128#32 0#32) 1#32 128#32)) 0#32))
      (Scalar.addi (Scalar.remsi w (Scalar.select (Scalar.cmpi .eq 128#32 0#32) 1#32 128#32)) (Scalar.select (Scalar.cmpi .eq 128#32 0#32) 1#32 128#32))
      (Scalar.remsi w (Scalar.select (Scalar.cmpi .eq 128#32 0#32) 1#32 128#32)) = BitVec.ofNat 32 (lane w).val := by
  have h128 : Scalar.select (Scalar.cmpi .eq 128#32 0#32) 1#32 128#32 = 128#32 := by decide
  have hr : Scalar.remsi w 128#32 = BitVec.ofNat 32 (lane w).val := by
    have := Routing.remsi_word .scalar (a := w.toNat) (b := 128) (by omega) (by omega) (by omega)
    rw [BitVec.ofNat_toNat, BitVec.setWidth_eq] at this
    exact this
  rw [h128, hr]
  have : ∀ l : Fin 128, Scalar.select (Scalar.andi (Scalar.xori (Scalar.cmpi .slt (BitVec.ofNat 32 l.val) 0#32) (Scalar.cmpi .slt 128#32 0#32))
        (Scalar.cmpi .ne (BitVec.ofNat 32 l.val) 0#32))
      (Scalar.addi (BitVec.ofNat 32 l.val) 128#32) (BitVec.ofNat 32 l.val) = BitVec.ofNat 32 l.val := by decide
  exact this (lane w)

/-- Two short numbers' words are equal only if the numbers are. -/
theorem ofNat_inj {a b : ℕ} (ha : a < 2 ^ 32) (hb : b < 2 ^ 32) : BitVec.ofNat 32 a = BitVec.ofNat 32 b ↔ a = b := by
  refine ⟨fun h => ?_, fun h => h ▸ rfl⟩
  have := congrArg BitVec.toNat h
  rwa [BitVec.toNat_ofNat, BitVec.toNat_ofNat, Nat.mod_eq_of_lt ha, Nat.mod_eq_of_lt hb] at this

theorem cmp_ofNat {a b : ℕ} (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · rw [if_neg h]
    have : (BitVec.ofNat 32 a == BitVec.ofNat 32 b) = false := by
      rw [beq_eq_false_iff_ne]; exact fun e => h ((ofNat_inj ha hb).mp e)
    simp only [this]; rfl

/-- A sum masked to one lane. -/
theorem sum_lane (f : Fin 128 → EReal) (k : Fin 128) :
    (∑ l : Fin 128, Scalar.select (IntOp.cmpi .eq (BitVec.ofNat 32 l.val) (BitVec.ofNat 32 k.val)) (f l) 0) = f k := by
  rw [Finset.sum_eq_single k]
  · rw [cmp_ofNat (by omega) (by omega), if_pos rfl]; rfl
  · intro l _ hl
    rw [cmp_ofNat (by omega) (by omega), if_neg (fun e => hl (Fin.ext e))]; rfl
  · intro h; exact absurd (Finset.mem_univ k) h

/-- The zero or one of a comparison, as a float. -/
theorem bit_float (a b : ℕ) (ha : a < 2 ^ 32) (hb : b < 2 ^ 32) :
    (FloatOps.sitofp (F := Ideal) .f32 (BitVec.setWidth 32 (IntOp.cmpi .eq (BitVec.ofNat 32 a) (BitVec.ofNat 32 b))) : EReal) = if a = b then 1 else 0 := by
  rw [cmp_ofNat ha hb]
  by_cases h : a = b
  · rw [if_pos h, if_pos h]
    show (((BitVec.setWidth 32 (1#1)).toInt : ℝ) : EReal) = 1
    simp
  · rw [if_neg h, if_neg h]
    show (((BitVec.setWidth 32 (0#1)).toInt : ℝ) : EReal) = 0
    simp

/-- A sum weighted by a row of the zero-one matrix. -/
theorem sum_pick {N : ℕ} (hN : N < 2 ^ 32) (f : Fin N → EReal) (k : Fin N) :
    (∑ l : Fin N, (FloatOps.sitofp (F := Ideal) .f32 (BitVec.setWidth 32 (IntOp.cmpi .eq (BitVec.ofNat 32 l.val) (BitVec.ofNat 32 k.val))) : EReal) * f l) = f k := by
  rw [Finset.sum_eq_single k]
  · rw [bit_float _ _ (by omega) (by omega), if_pos rfl, one_mul]
  · intro l _ hl
    rw [bit_float _ _ (by omega) (by omega), if_neg (fun e => hl (Fin.ext e)), zero_mul]
  · intro h; exact absurd (Finset.mem_univ k) h

end Cert.Proof

end
-- ==== Proof.Tables.lean ====
/-
  What the TensorCore call's arrays hold of the arguments when it starts, in the agent's lane: through the gather's blocks,
  the host's padding and its transposes.
-/
module

public import proofs.«01_k».proof.Proof.Lanes
public import proofs.«01_k».proof.Proof.Frames

@[expose] public section

noncomputable section

namespace Cert.Proof

open Cert.KernelIdeal Cert.KernelIdeal.Gen

open Idealize.ShloMosaic Idealize.ShloMosaic.TcCoe Idealize.ShloMosaic.StableHlo

/-! ## The gather's blocks in the agent's lane -/

section Blocks
variable {α : Type} {v : BitVec 32} (hv : v.toNat < 10000)
include hv

theorem column : Fin.ofNat 10112 (stripe v + (lane v).val) = (⟨v.toNat, by omega⟩ : Fin 10112) := by
  apply Fin.ext
  show (v.toNat / 128 * 128 + v.toNat % 128) % 10112 = v.toNat
  omega

theorem posOut_at (x : S3x110x10112.Idx → α) (p : Fin 2) (t : Fin 110) :
    posOut x v (ix3 p t (lane v)) = x (ix3 ⟨p.val, by omega⟩ t ⟨v.toNat, by omega⟩) := by
  show x (ix3 (Fin.ofNat 3 p.val) (Fin.ofNat 110 t.val) (Fin.ofNat 10112 (stripe v + (lane v).val))) = _
  rw [column hv, show Fin.ofNat 3 p.val = (⟨p.val, by omega⟩ : Fin 3) from Fin.ext (Nat.mod_eq_of_lt (by omega)),
    show Fin.ofNat 110 t.val = t from Fin.ext (Nat.mod_eq_of_lt t.isLt)]

theorem velOut_at (x : S3x110x10112.Idx → α) (p : Fin 2) (t : Fin 8) :
    velOut x v (ix3 p t (lane v)) = x (ix3 ⟨p.val, by omega⟩ ⟨48 + t.val, by omega⟩ ⟨v.toNat, by omega⟩) := by
  show x (ix3 (Fin.ofNat 3 p.val) (Fin.ofNat 110 (48 + t.val)) (Fin.ofNat 10112 (stripe v + (lane v).val))) = _
  rw [column hv, show Fin.ofNat 3 p.val = (⟨p.val, by omega⟩ : Fin 3) from Fin.ext (Nat.mod_eq_of_lt (by omega)),
    show Fin.ofNat 110 (48 + t.val) = ⟨48 + t.val, by omega⟩ from Fin.ext (Nat.mod_eq_of_lt (by omega))]

theorem headOut_at (x : S110x10112.Idx → α) (t : Fin 8) :
    headOut x v (ix2 t (lane v)) = x (ix2 ⟨48 + t.val, by omega⟩ ⟨v.toNat, by omega⟩) := by
  show x (ix2 (Fin.ofNat 110 (48 + t.val)) (Fin.ofNat 10112 (stripe v + (lane v).val))) = _
  rw [column hv, show Fin.ofNat 110 (48 + t.val) = ⟨48 + t.val, by omega⟩ from Fin.ext (Nat.mod_eq_of_lt (by omega))]

end Blocks

/-! ## The padded tables -/

variable {F : FTy → Type} [FloatOps F]
variable (m : (ℓ : Loc nD τ sig) → Buf (Elt F) ℓ) (d : Dev nD)

/-- A table of an axis of three, transposed and padded. -/
def padded3 (x : FVec F S10000x110x3 .f32) : FVec F S3x110x10112 .f32 :=
  pad S3x110x10112 ![0, 0, 0] ![0, 0, 112] ![0, 0, 0] (transpose S3x110x10000 [2, 1, 0] x transposes_S10000x110x3_S3x110x10000_2_1_0)
    (constant S_ .f32 0x00000000#32) pads_S3x110x10000_S3x110x10112_000_000_01120 h_S_
/-- A table of two axes, transposed and padded. -/
def padded2 (x : FVec F S10000x110 .f32) : FVec F S110x10112 .f32 :=
  pad S110x10112 ![0, 0] ![0, 112] ![0, 0] (transpose S110x10000 [1, 0] x transposes_S10000x110_S110x10000_1_0)
    (constant S_ .f32 0x00000000#32) pads_S110x10000_S110x10112_000_01120 h_S_

theorem padded3_at (x : FVec Ideal S10000x110x3 .f32) (p : Fin 3) (t : Fin 110) (n : Fin 10000) :
    padded3 x (ix3 p t ⟨n.val, by omega⟩) = x (ix3 n t p) := by
  unfold padded3
  pointwise

theorem padded2_at (x : FVec Ideal S10000x110 .f32) (t : Fin 110) (n : Fin 10000) :
    padded2 x (ix2 t ⟨n.val, by omega⟩) = x (ix2 n t) := by
  unfold padded2
  pointwise

theorem VA_pos : VA m d (Proc.devRef .tc (main_v5 : Ref sig .tc)) = padded3 (m ((d : Thread nD τ).loc main_arg1)) := by
  unfold VA opsA; after_results; rfl
theorem VA_vel : VA m d (Proc.devRef .tc (main_v6 : Ref sig .tc)) = padded3 (m ((d : Thread nD τ).loc main_arg2)) := by
  unfold VA opsA; after_results; rfl
theorem VA_head : VA m d (Proc.devRef .tc (main_v7 : Ref sig .tc)) = padded2 (m ((d : Thread nD τ).loc main_arg3)) := by
  unfold VA opsA; after_results; rfl

/-! ## The TensorCore call's arrays -/

theorem VT_table : num (VT m) d = number m d := by
  refine Eq.trans ?_ (VA_table m d)
  unfold num word
  rw [show VT m d main_v0 = VC m d (Proc.devRef .tc main_v0) from rfl, VC_other m d main_v0 (by decide),
    VG_other m d _ (ref_ne (by decide)) (ref_ne (by decide)) (ref_ne (by decide))]

theorem VT_pos : VT m d main_v9 = (shapeCast S220x128 (posOut (padded3 (m ((d : Thread nD τ).loc main_arg1))) (number m d)) shapeCasts_S2x110x128_S220x128 : FVec F S220x128 .f32) := by
  have e : VC m d (Proc.devRef .tc main_v9) = (shapeCast S220x128 (VG m d (Proc.devRef .tc main_v8_0) : FVec F S2x110x128 .f32) shapeCasts_S2x110x128_S220x128 : FVec F S220x128 .f32) := by
    unfold VC opsB; after_results; rfl
  refine e.trans ?_
  rw [VG_pos]
  show shapeCast S220x128 (posOut (VA m d (Proc.devRef .tc (main_v5 : Ref sig .tc)) : FVec F S3x110x10112 .f32) (agent (VA m) d)) shapeCasts_S2x110x128_S220x128 = _
  rw [VA_agent, VA_pos]

theorem VT_vel : VT m d main_v10 = (shapeCast S16x128 (velOut (padded3 (m ((d : Thread nD τ).loc main_arg2))) (number m d)) shapeCasts_S2x8x128_S16x128 : FVec F S16x128 .f32) := by
  have e : VC m d (Proc.devRef .tc main_v10) = (shapeCast S16x128 (VG m d (Proc.devRef .tc main_v8_1) : FVec F S2x8x128 .f32) shapeCasts_S2x8x128_S16x128 : FVec F S16x128 .f32) := by
    unfold VC opsB; after_results; rfl
  refine e.trans ?_
  rw [VG_vel]
  show shapeCast S16x128 (velOut (VA m d (Proc.devRef .tc (main_v6 : Ref sig .tc)) : FVec F S3x110x10112 .f32) (agent (VA m) d)) shapeCasts_S2x8x128_S16x128 = _
  rw [VA_agent, VA_vel]

theorem VT_head : VT m d main_v8_2 = headOut (padded2 (m ((d : Thread nD τ).loc main_arg3))) (number m d) := by
  refine (VC_other m d main_v8_2 (by decide)).trans ?_
  rw [VG_head]
  show headOut (VA m d (Proc.devRef .tc (main_v7 : Ref sig .tc)) : FVec F S110x10112 .f32) (agent (VA m) d) = _
  rw [VA_agent, VA_head]

/-- A buffer neither call writes and no operation before the first, between the calls. -/
theorem VG_arg (r : Ref sig .tc) (h1 : r ∉ [main_v0, main_v1, main_v2, main_v3, main_v4, main_cst, main_v5, main_cst_0, main_v6, main_cst_1, main_v7])
    (h3 : r ∉ [main_v8_0, main_v8_1, main_v8_2]) : VG m d (Proc.devRef .tc r) = m ((d : Thread nD τ).loc r) := by
  simp only [List.mem_cons, List.not_mem_nil, or_false, not_or] at h3
  rw [VG_other m d _ (ref_ne h3.1) (ref_ne h3.2.1) (ref_ne h3.2.2), VA_other m d r h1]

theorem VT_b1 : VT m d main_v11 = (shapeCast S1x4096 (m ((d : Thread nD τ).loc main_arg10) : FVec F S4096 .f32) shapeCasts_S4096_S1x4096 : FVec F S1x4096 .f32) := by
  rw [← VG_arg m d main_arg10 (by decide) (by decide)]
  show VC m d (Proc.devRef .tc main_v11) = _
  unfold VC opsB; after_results; rfl
theorem VT_b2 : VT m d main_v12 = (shapeCast S1x2048 (m ((d : Thread nD τ).loc main_arg12) : FVec F S2048 .f32) shapeCasts_S2048_S1x2048 : FVec F S1x2048 .f32) := by
  rw [← VG_arg m d main_arg12 (by decide) (by decide)]
  show VC m d (Proc.devRef .tc main_v12) = _
  unfold VC opsB; after_results; rfl
theorem VT_b3 : VT m d main_v13 = (shapeCast S1x3 (m ((d : Thread nD τ).loc main_arg14) : FVec F S3 .f32) shapeCasts_S3_S1x3 : FVec F S1x3 .f32) := by
  rw [← VG_arg m d main_arg14 (by decide) (by decide)]
  show VC m d (Proc.devRef .tc main_v13) = _
  unfold VC opsB; after_results; rfl

end Cert.Proof

end
-- ==== Proof.ReadRows.lean ====
/-
  What the TensorCore kernel reads of the gathered blocks: the agent's lane of each.
-/
module

public import proofs.«01_k».proof.Proof.Lanes
public import proofs.«01_k».proof.Proof.Policy

@[expose] public section

noncomputable section

namespace Cert.Proof

open Cert.KernelIdeal Cert.KernelIdeal.Gen
open Idealize.ShloMosaic

variable {w : BitVec 32} (hw : w.toNat < 10000)
variable (pos : Vec Ideal S220x128 .f32) (vel : Vec Ideal S16x128 .f32) (head : Vec Ideal S8x128 .f32)

section
include hw

theorem posX_at (t : Fin 110) : posX w pos (ix2 t 0) = pos (ix2 ⟨t.val, by omega⟩ (lane w)) := by
  unfold posX
  pointwise [k1_pay5, k1_pay4]
  rw [lane_word hw, sum_lane]

theorem posY_at (t : Fin 110) : posY w pos (ix2 t 0) = pos (ix2 ⟨110 + t.val, by omega⟩ (lane w)) := by
  unfold posY
  pointwise [k1_pay6, k1_pay4]
  rw [lane_word hw, sum_lane]

theorem velXY_at (t : Fin 16) : velXY w vel (ix2 t 0) = vel (ix2 t (lane w)) := by
  unfold velXY
  pointwise [k1_pay7]
  rw [lane_word hw, sum_lane]

theorem yaw_at : yaw w head = head (ix2 1 (lane w)) := by
  unfold yaw
  pointwise [k1_pay9, k1_pay8]
  rw [lane_word hw, sum_lane]

theorem orgX_at : orgX w pos = pos (ix2 49 (lane w)) := by
  unfold orgX
  pointwise [k1_pay10]
  exact posX_at hw pos 49

theorem orgY_at : orgY w pos = pos (ix2 159 (lane w)) := by
  unfold orgY
  pointwise [k1_pay11]
  exact posY_at hw pos 49

theorem velX_at : velX w vel = vel (ix2 1 (lane w)) := by
  unfold velX
  pointwise [k1_pay12]
  exact velXY_at hw vel 1

theorem velY_at : velY w vel = vel (ix2 9 (lane w)) := by
  unfold velY
  pointwise [k1_pay13]
  exact velXY_at hw vel 9

end
end Cert.Proof

end
-- ==== Proof.ReadEnc.lean ====
/-
  What the TensorCore kernel's staged blocks hold of the model's inputs, and its encoder's output: the model's.
-/
module

public import proofs.«01_k».proof.Proof.ReadRows

@[expose] public section

noncomputable section

namespace Cert.Proof

open Cert.KernelIdeal Cert.KernelIdeal.Gen
open Idealize.ShloMosaic

/-- The words of the even columns and of the odd. -/
theorem word_even (t : ℕ) : IntOp.muli 2#32 (BitVec.ofNat 32 t) = BitVec.ofNat 32 (t * 2) := by
  apply BitVec.eq_of_toNat_eq
  simp [IntOp.muli, BitVec.toNat_mul, Nat.mul_comm]
theorem word_odd (t : ℕ) : IntOp.addi (IntOp.muli 2#32 (BitVec.ofNat 32 t)) 1#32 = BitVec.ofNat 32 (t * 2 + 1) := by
  rw [word_even]
  apply BitVec.eq_of_toNat_eq
  simp [IntOp.addi, BitVec.toNat_add]

/-- The recorded times come before the planned ones. -/
theorem recorded : ∀ k : Fin 50, IntOp.cmpi .sge (BitVec.ofNat 32 k.val) 50#32 = 0#1 := by decide
theorem planned : ∀ k : Fin 60, IntOp.cmpi .sge (BitVec.ofNat 32 (50 + k.val)) 50#32 = 1#1 := by decide

/-- Entries placed every second row from row `e`, the recorded and the planned apart. -/
theorem sum_place (e : ℕ) (he : e < 2) (x : Fin 220) (f : Fin 110 → EReal) :
    (∑ i : Fin 50, (if x.val = i.val * 2 + e then (1 : EReal) else 0) * f ⟨i.val, by omega⟩)
      + (∑ i : Fin 60, (if x.val = (50 + i.val) * 2 + e then (1 : EReal) else 0) * f ⟨50 + i.val, by omega⟩)
      = if x.val % 2 = e then f ⟨x.val / 2, by omega⟩ else 0 := by
  have hs := (Fin.sum_univ_add (fun i : Fin (50 + 60) => (if x.val = i.val * 2 + e then (1 : EReal) else 0) * f i)).symm
  refine Eq.trans ?_ (hs.trans ?_)
  · rfl
  · by_cases hx : x.val % 2 = e
    · rw [if_pos hx, Finset.sum_eq_single (⟨x.val / 2, by omega⟩ : Fin (50 + 60))]
      · rw [if_pos (by show x.val = x.val / 2 * 2 + e; omega), one_mul]
      · intro i _ hi
        rw [if_neg (fun hc => hi (Fin.ext (by show i.val = x.val / 2; omega))), zero_mul]
      · intro hc; exact absurd (Finset.mem_univ _) hc
    · rw [if_neg hx]
      refine Finset.sum_eq_zero fun i _ => ?_
      rw [if_neg (fun hc => hx (by omega)), zero_mul]

/-- The staged blocks hold the model's inputs: the agent's rows in its lane, the planned states, the weights. -/
structure Reads (x : Inputs) (w : BitVec 32) (states : Vec Ideal S60x4 .f32) (pos : Vec Ideal S220x128 .f32) (vel : Vec Ideal S16x128 .f32)
    (head : Vec Ideal S8x128 .f32) (w0 : Vec Ideal S220x512 .f32) (wpos : Vec Ideal S512x720 .f32) (whead : Vec Ideal S512x360 .f32) : Prop where
  inRange : w.toNat < 10000
  plan : ∀ t c, states (ix2 t c) = x.plan t c
  posX : ∀ t : Fin 110, pos (ix2 ⟨t.val, by omega⟩ (lane w)) = x.pos t 0
  posY : ∀ t : Fin 110, pos (ix2 ⟨110 + t.val, by omega⟩ (lane w)) = x.pos t 1
  velX : vel (ix2 1 (lane w)) = x.vel 49 0
  velY : vel (ix2 9 (lane w)) = x.vel 49 1
  yaw : head (ix2 1 (lane w)) = x.yaw
  wEnc : ∀ i k, w0 (ix2 i k) = x.wEnc i k
  wPos : ∀ k j, wpos (ix2 k j) = x.wPos k j
  wHead : ∀ k j, whead (ix2 k j) = x.wHead k j

namespace Reads

variable {x : Inputs} {w : BitVec 32} {states : Vec Ideal S60x4 .f32} {pos : Vec Ideal S220x128 .f32} {vel : Vec Ideal S16x128 .f32}
variable {head : Vec Ideal S8x128 .f32} {w0 : Vec Ideal S220x512 .f32} {wpos : Vec Ideal S512x720 .f32} {whead : Vec Ideal S512x360 .f32}
variable (h : Reads x w states pos vel head w0 wpos whead)
include h

theorem enc_at (k : Fin 512) : enc w states pos w0 (ix2 0 k) = x.code k := by
  unfold enc
  pointwise [k1_pay14]
  unfold Inputs.code
  refine congrArg Ideal.tanh (Finset.sum_congr rfl fun i _ => ?_)
  rw [h.wEnc]
  refine congrArg (· * _) ?_
  have hR : ∀ (t : Fin 50) (c : Fin 2), x.track ⟨t.val, by omega⟩ c = x.pos ⟨t.val, by omega⟩ ⟨c.val, by omega⟩ := fun t c => by
    unfold Inputs.track
    rw [dif_neg (by show ¬ 50 ≤ t.val; omega)]
  have hX : ∀ t : Fin 50, Cert.Proof.posX w pos (ix2 ⟨t.val, by omega⟩ 0) = x.track ⟨t.val, by omega⟩ 0 := fun t =>
    ((posX_at h.inRange pos ⟨t.val, by omega⟩).trans (h.posX ⟨t.val, by omega⟩)).trans (hR t 0).symm
  have hY : ∀ t : Fin 50, Cert.Proof.posY w pos (ix2 ⟨t.val, by omega⟩ 0) = x.track ⟨t.val, by omega⟩ 1 := fun t =>
    ((posY_at h.inRange pos ⟨t.val, by omega⟩).trans (h.posY ⟨t.val, by omega⟩)).trans (hR t 1).symm
  have hP : ∀ (t : Fin 60) (c : Fin 2), x.plan t ⟨c.val, by omega⟩ = x.track ⟨50 + t.val, by omega⟩ c := fun t c => by
    unfold Inputs.track
    rw [dif_pos (by show 50 ≤ 50 + t.val; omega)]
    congr 1
    exact Fin.ext (by show t.val = 50 + t.val - 50; omega)
  have hP0 : ∀ t : Fin 60, states (ix2 t 0) = x.track ⟨50 + t.val, by omega⟩ 0 := fun t => (h.plan t 0).trans (hP t 0)
  have hP1 : ∀ t : Fin 60, states (ix2 t 1) = x.track ⟨50 + t.val, by omega⟩ 1 := fun t => (h.plan t 1).trans (hP t 1)
  have hb0 : ∀ k : ℕ, k < 110 → (FloatOps.sitofp (F := Ideal) .f32 (BitVec.setWidth 32 (IntOp.cmpi .eq (BitVec.ofNat 32 i.val) (IntOp.muli 2#32 (BitVec.ofNat 32 k)))) : EReal)
      = if i.val = k * 2 + 0 then 1 else 0 := fun k hk => by rw [word_even]; exact bit_float _ _ (by omega) (by omega)
  have hb1 : ∀ k : ℕ, k < 110 → (FloatOps.sitofp (F := Ideal) .f32 (BitVec.setWidth 32 (IntOp.cmpi .eq (BitVec.ofNat 32 i.val) (IntOp.addi (IntOp.muli 2#32 (BitVec.ofNat 32 k)) 1#32))) : EReal)
      = if i.val = k * 2 + 1 then 1 else 0 := fun k hk => by rw [word_odd]; exact bit_float _ _ (by omega) (by omega)
  have h0 := sum_place 0 (by omega) i (fun t => x.track t 0)
  have h1 := sum_place 1 (by omega) i (fun t => x.track t 1)
  refine Eq.trans (congrArg₂ (· + ·) (Eq.trans (congrArg₂ (· + ·) (Finset.sum_congr rfl fun t _ => ?_) (Finset.sum_congr rfl fun t _ => ?_)) h0)
    (Eq.trans (congrArg₂ (· + ·) (Finset.sum_congr rfl fun t _ => ?_) (Finset.sum_congr rfl fun t _ => ?_)) h1)) ?_
  · exact congrArg₂ (· * ·) (hb0 _ (by omega)) ((congrArg (fun b => Scalar.select b _ _) (recorded t)).trans (hX t))
  · exact congrArg₂ (· * ·) (hb0 _ (by omega)) ((congrArg (fun b => Scalar.select b _ _) (planned t)).trans (hP0 t))
  · exact congrArg₂ (· * ·) (hb1 _ (by omega)) ((congrArg (fun b => Scalar.select b _ _) (recorded t)).trans (hY t))
  · exact congrArg₂ (· * ·) (hb1 _ (by omega)) ((congrArg (fun b => Scalar.select b _ _) (planned t)).trans (hP1 t))
  · rcases Nat.mod_two_eq_zero_or_one i.val with he | he
    · rw [if_pos he, if_neg (by omega), add_zero]
      exact congrArg (x.track _) (Fin.ext he.symm)
    · rw [if_neg (by omega), if_pos he, zero_add]
      exact congrArg (x.track _) (Fin.ext he.symm)

end Reads
end Cert.Proof

end
-- ==== Proof.ReadAct.lean ====
/-
  The TensorCore kernel's path, headings and accelerations, read at a point: the model's.
-/
module

public import proofs.«01_k».proof.Proof.ReadEnc

@[expose] public section

noncomputable section

namespace Cert.Proof

open Cert.KernelIdeal Cert.KernelIdeal.Gen
open Idealize.ShloMosaic

/-- A select on a time's being the first. -/
theorem select_first {k : ℕ} (hk : k < 2 ^ 32) (a b : EReal) :
    (Scalar.select (IntOp.cmpi .eq (BitVec.ofNat 32 k) 0#32) a b : EReal) = if k < 1 then a else b := by
  rw [show (0#32 : BitVec 32) = BitVec.ofNat 32 0 from rfl, cmp_ofNat hk (by decide)]
  by_cases h : k = 0
  · rw [if_pos h, if_pos (by omega)]; rfl
  · rw [if_neg h, if_neg (by omega)]; rfl

/-- Differences taken twice, as the kernel's selects have them. -/
theorem twice_diff (f : Fin 60 → EReal) (o p : EReal) (t : Fin 60) :
    (Scalar.select (IntOp.cmpi .eq (BitVec.ofNat 32 t.val) 0#32)
      (Scalar.select (IntOp.cmpi .eq (BitVec.ofNat 32 t.val) 0#32) (f t - o)
        ((f t - if h : t.val < 1 then 0 else f ⟨t.val - 1, by omega⟩) * Ideal.ofBits .f32 0x41200000#32) - p)
      ((Scalar.select (IntOp.cmpi .eq (BitVec.ofNat 32 t.val) 0#32) (f t - o)
          ((f t - if h : t.val < 1 then 0 else f ⟨t.val - 1, by omega⟩) * Ideal.ofBits .f32 0x41200000#32)
        - if h : t.val < 1 then 0
          else Scalar.select (IntOp.cmpi .eq (BitVec.ofNat 32 (t.val - 1)) 0#32) (f ⟨t.val - 1, by omega⟩ - o)
            ((f ⟨t.val - 1, by omega⟩ - if h : t.val - 1 < 1 then 0 else f ⟨t.val - 1 - 1, by omega⟩) * Ideal.ofBits .f32 0x41200000#32))
        * Ideal.ofBits .f32 0x41200000#32) : EReal) = Inputs.diff (Inputs.diff f o) p t := by
  simp only [select_first (show t.val < 2 ^ 32 by omega), select_first (show t.val - 1 < 2 ^ 32 by omega)]
  unfold Inputs.diff
  by_cases h1 : t.val < 1
  · simp only [h1, if_true]
  · by_cases h2 : t.val - 1 < 1
    · simp only [h1, h2, if_true, if_false, dif_neg, not_false_eq_true]
    · simp only [h1, h2, if_false, dif_neg, not_false_eq_true]

namespace Reads

variable {x : Inputs} {w : BitVec 32} {states : Vec Ideal S60x4 .f32} {pos : Vec Ideal S220x128 .f32} {vel : Vec Ideal S16x128 .f32}
variable {head : Vec Ideal S8x128 .f32} {w0 : Vec Ideal S220x512 .f32} {wpos : Vec Ideal S512x720 .f32} {whead : Vec Ideal S512x360 .f32}
variable (h : Reads x w states pos vel head w0 wpos whead)
include h

theorem yaw_eq : Cert.Proof.yaw w head = x.yaw := (yaw_at h.inRange head).trans h.yaw
theorem orgX_eq : orgX w pos = x.pos 49 0 := (orgX_at h.inRange pos).trans (h.posX 49)
theorem orgY_eq : orgY w pos = x.pos 49 1 := (orgY_at h.inRange pos).trans (h.posY 49)
theorem velX_eq : Cert.Proof.velX w vel = x.vel 49 0 := (velX_at h.inRange vel).trans h.velX
theorem velY_eq : Cert.Proof.velY w vel = x.vel 49 1 := (velY_at h.inRange vel).trans h.velY

theorem dec_at (j : Fin 720) : dec w states pos w0 wpos (ix2 0 j) = ∑ k : Fin 512, x.code k * x.wPos k j := by
  simp only [← h.enc_at, ← h.wPos]
  unfold dec enc
  pointwise [k1_pay15]

theorem ahead_at (t : Fin 60) : k1_pay16 (dec w states pos w0 wpos) (ix2 t 0) = x.ahead t := by
  pointwise [k1_pay16]
  rw [word_even]
  refine (sum_pick (by decide) (fun j : Fin 720 => dec w states pos w0 wpos (ix2 0 j)) ⟨t.val * 2, by omega⟩).trans ?_
  exact h.dec_at _

theorem aside_at (t : Fin 60) : k1_pay17 (dec w states pos w0 wpos) (ix2 t 0) = x.aside t := by
  pointwise [k1_pay17]
  rw [word_odd]
  refine (sum_pick (by decide) (fun j : Fin 720 => dec w states pos w0 wpos (ix2 0 j)) ⟨t.val * 2 + 1, by omega⟩).trans ?_
  exact h.dec_at _

theorem turn_at (t : Fin 60) : turn w states pos w0 whead (ix2 t 0) = ∑ k : Fin 512, x.code k * x.wHead k ⟨t.val, by omega⟩ := by
  unfold turn
  pointwise [k1_pay18]
  refine (sum_pick (by decide) (fun j : Fin 360 => ∑ k : Fin 512, enc w states pos w0 (ix2 0 k) * whead (ix2 k j)) ⟨t.val, by omega⟩).trans ?_
  simp only [h.enc_at, h.wHead]

theorem pathX_at (t : Fin 60) : k1_pay21 (Cert.Proof.yaw w head) (orgX w pos) (dec w states pos w0 wpos) (ix2 t 0) = x.pathX t := by
  pointwise [k1_pay21, k1_pay19, k1_pay20]
  rw [h.ahead_at, h.aside_at, h.yaw_eq, h.orgX_eq]
  rfl

theorem pathY_at (t : Fin 60) : k1_pay22 (Cert.Proof.yaw w head) (orgY w pos) (dec w states pos w0 wpos) (ix2 t 0) = x.pathY t := by
  pointwise [k1_pay22, k1_pay19, k1_pay20]
  rw [h.ahead_at, h.aside_at, h.yaw_eq, h.orgY_eq]
  rfl

theorem accX_at (t : Fin 60) : accX w states pos vel head w0 wpos (ix2 t 0) = x.accX t := by
  unfold accX
  pointwise [k1_pay28, k1_pay27, k1_pay26, k1_pay25, k1_pay23]
  simp only [h.pathX_at]
  simp only [h.orgX_eq, h.velX_eq]
  exact twice_diff x.pathX (x.pos 49 0) (x.vel 49 0) t

theorem accY_at (t : Fin 60) : accY w states pos vel head w0 wpos (ix2 t 0) = x.accY t := by
  unfold accY
  pointwise [k1_pay29, k1_pay24, k1_pay23]
  simp only [h.pathY_at]
  simp only [h.orgY_eq, h.velY_eq]
  exact twice_diff x.pathY (x.pos 49 1) (x.vel 49 1) t

theorem wrap_at (t : Fin 60) : k1_pay30 (Cert.Proof.yaw w head) (turn w states pos w0 whead) (ix2 t 0) - Ideal.ofBits .f32 0x40490FDB#32 = x.turn t := by
  pointwise [k1_pay30]
  rw [h.turn_at, h.yaw_eq]
  rfl

theorem act_at (t : Fin 60) (c : Fin 3) : act w states pos vel head w0 wpos whead (ix2 t c) = x.input t c := by
  unfold act
  pointwise [k1_pay31]
  unfold Inputs.input
  match c with
  | ⟨0, _⟩ => exact h.wrap_at t
  | ⟨1, _⟩ => exact h.accX_at t
  | ⟨2, _⟩ => exact h.accY_at t

end Reads
end Cert.Proof

end
-- ==== Proof.ReadNet.lean ====
/-
  The TensorCore kernel's network over its input, read at a point: two chunks of hidden units make the model's sum.
-/
module

public import proofs.«01_k».proof.Proof.ReadAct

@[expose] public section

noncomputable section

namespace Cert.Proof

open Cert.KernelIdeal Cert.KernelIdeal.Gen
open Idealize.ShloMosaic

theorem zeros_at (t : Fin 60) (j : Fin 2048) : zeros (F := Ideal) (ix2 t j) = 0 := by
  unfold zeros
  pointwise [k1_pay32]

/-- One chunk of hidden units: what it adds. -/
theorem chunk_at (a : Vec Ideal S60x3 .f32) (w1 : Vec Ideal S3x2048 .f32) (b1 : Vec Ideal S1x2048 .f32) (w2 : Vec Ideal S2048x2048 .f32)
    (s : Vec Ideal S60x2048 .f32) (t : Fin 60) (j : Fin 2048) :
    chunk a w1 b1 w2 s (ix2 t j) = s (ix2 t j) + ∑ k : Fin 2048,
      max (a (ix2 t 0) * w1 (ix2 0 k) + a (ix2 t 1) * w1 (ix2 1 k) + a (ix2 t 2) * w1 (ix2 2 k) + b1 (ix2 0 k)) 0 * w2 (ix2 k j) := by
  unfold chunk colA colB colC rowA rowB rowC
  pointwise [k1_pay33]

theorem out_at (s : Vec Ideal S60x2048 .f32) (b2 : Vec Ideal S1x2048 .f32) (w3 : Vec Ideal S2048x3 .f32) (b3 : Vec Ideal S1x3 .f32) (t : Fin 60) (c : Fin 3) :
    k1_pay1 s b2 w3 b3 (ix2 t c) = ∑ k : Fin 2048, (s (ix2 t k) + b2 (ix2 0 k)) * w3 (ix2 k c) + b3 (ix2 0 c) := by
  pointwise [k1_pay1]

theorem mean_at (s : Vec Ideal S60x2048 .f32) (b2 : Vec Ideal S1x2048 .f32) (w3 : Vec Ideal S2048x3 .f32) (b3 : Vec Ideal S1x3 .f32) (t : Fin 60) (c : Fin 3) :
    mean s b2 w3 b3 (ix2 t c) = Ideal.tanh (k1_pay1 s b2 w3 b3 (ix2 t c)) := by
  unfold mean
  pointwise [k1_pay2]

theorem spread_at (s : Vec Ideal S60x2048 .f32) (b2 : Vec Ideal S1x2048 .f32) (w3 : Vec Ideal S2048x3 .f32) (b3 : Vec Ideal S1x3 .f32) (t : Fin 60) (c : Fin 3) :
    spread s b2 w3 b3 (ix2 t c) = Ideal.log1p (Ideal.exp (0 - max (k1_pay1 s b2 w3 b3 (ix2 t c)) (-(k1_pay1 s b2 w3 b3 (ix2 t c)))))
      + max (k1_pay1 s b2 w3 b3 (ix2 t c)) 0 + Ideal.ofBits .f32 0x322BCC77#32 := by
  unfold spread
  pointwise [k1_pay3]
  rfl

end Cert.Proof

end
-- ==== Proof.ReadKernel.lean ====
/-
  The kernel's two results at a point: the model's, at the arguments as launched.
-/
module

public import proofs.«01_k».proof.Proof.Tables
public import proofs.«01_k».proof.Proof.Blocks
public import proofs.«01_k».proof.Proof.ReadNet

@[expose] public section

noncomputable section

namespace Cert.Proof

open Cert.KernelIdeal Cert.KernelIdeal.Gen

open Idealize.ShloMosaic Idealize.ShloMosaic.TcCoe

variable (m : (ℓ : Loc nD τ sig) → Buf (Elt Ideal) ℓ) (d : Dev nD)

/-- The arguments as the model reads them, at an agent. -/
def rows (n : Fin 10000) : Inputs where
  plan t c := (m ((d : Thread nD τ).loc main_arg0) : FVec Ideal S60x4 .f32) (ix2 t c)
  pos t c := (m ((d : Thread nD τ).loc main_arg1) : FVec Ideal S10000x110x3 .f32) (ix3 n t c)
  vel t c := (m ((d : Thread nD τ).loc main_arg2) : FVec Ideal S10000x110x3 .f32) (ix3 n t c)
  head t := (m ((d : Thread nD τ).loc main_arg3) : FVec Ideal S10000x110 .f32) (ix2 n t)
  wEnc i k := (m ((d : Thread nD τ).loc main_arg6) : FVec Ideal S220x512 .f32) (ix2 i k)
  wPos k j := (m ((d : Thread nD τ).loc main_arg7) : FVec Ideal S512x720 .f32) (ix2 k j)
  wHead k j := (m ((d : Thread nD τ).loc main_arg8) : FVec Ideal S512x360 .f32) (ix2 k j)
  w1 k j := (m ((d : Thread nD τ).loc main_arg9) : FVec Ideal S3x4096 .f32) (ix2 k j)
  b1 j := (m ((d : Thread nD τ).loc main_arg10) : FVec Ideal S4096 .f32) (ix1 j)
  w2 k j := (m ((d : Thread nD τ).loc main_arg11) : FVec Ideal S4096x2048 .f32) (ix2 k j)
  b2 j := (m ((d : Thread nD τ).loc main_arg12) : FVec Ideal S2048 .f32) (ix1 j)
  w3 k j := (m ((d : Thread nD τ).loc main_arg13) : FVec Ideal S2048x3 .f32) (ix2 k j)
  b3 j := (m ((d : Thread nD τ).loc main_arg14) : FVec Ideal S3 .f32) (ix1 j)

/-! ## Reshapes -/

theorem cast_posX (x : FVec Ideal S2x110x128 .f32) (t : Fin 110) (l : Fin 128) :
    (shapeCast S220x128 x shapeCasts_S2x110x128_S220x128 : FVec Ideal S220x128 .f32) (ix2 ⟨t.val, by omega⟩ l) = x (ix3 0 t l) := by
  pointwise
  rw [show (⟨t.val / 110, by omega⟩ : Fin 2) = 0 from Fin.ext (by show t.val / 110 = 0; omega),
    show (⟨t.val % 110, by omega⟩ : Fin 110) = t from Fin.ext (by show t.val % 110 = t.val; omega)]
theorem cast_posY (x : FVec Ideal S2x110x128 .f32) (t : Fin 110) (l : Fin 128) :
    (shapeCast S220x128 x shapeCasts_S2x110x128_S220x128 : FVec Ideal S220x128 .f32) (ix2 ⟨110 + t.val, by omega⟩ l) = x (ix3 1 t l) := by
  pointwise
  rw [show (⟨(110 + t.val) / 110, by omega⟩ : Fin 2) = 1 from Fin.ext (by show (110 + t.val) / 110 = 1; omega)]
theorem cast_velX (x : FVec Ideal S2x8x128 .f32) (l : Fin 128) :
    (shapeCast S16x128 x shapeCasts_S2x8x128_S16x128 : FVec Ideal S16x128 .f32) (ix2 1 l) = x (ix3 0 1 l) := by
  pointwise
theorem cast_velY (x : FVec Ideal S2x8x128 .f32) (l : Fin 128) :
    (shapeCast S16x128 x shapeCasts_S2x8x128_S16x128 : FVec Ideal S16x128 .f32) (ix2 9 l) = x (ix3 1 1 l) := by
  pointwise
theorem cast_b1 (x : FVec Ideal S4096 .f32) (j : Fin 4096) : (shapeCast S1x4096 x shapeCasts_S4096_S1x4096 : FVec Ideal S1x4096 .f32) (ix2 0 j) = x (ix1 j) := by
  pointwise
theorem cast_b2 (x : FVec Ideal S2048 .f32) (j : Fin 2048) : (shapeCast S1x2048 x shapeCasts_S2048_S1x2048 : FVec Ideal S1x2048 .f32) (ix2 0 j) = x (ix1 j) := by
  pointwise
theorem cast_b3 (x : FVec Ideal S3 .f32) (j : Fin 3) : (shapeCast S1x3 x shapeCasts_S3_S1x3 : FVec Ideal S1x3 .f32) (ix2 0 j) = x (ix1 j) := by
  pointwise

/-! ## The staged blocks -/

section
variable (hr : (number m d).toNat < 10000)
include hr

theorem reads : Reads (rows m d ⟨(number m d).toNat, hr⟩) (number m d) (blk (VT m) d 0 t1_0) (blk (VT m) d 1 t1_0) (blk (VT m) d 2 t1_0)
    (blk (VT m) d 3 t1_0) (blk (VT m) d 4 t1_0) (blk (VT m) d 5 t1_0) (blk (VT m) d 6 t1_0) where
  inRange := hr
  plan t c := congrFun ((blk_0 (VT m) d t1_0).trans (VT_arg m d main_arg0 (by decide) (by decide) (by decide))) (ix2 t c)
  posX t := (congrFun ((blk_1 (VT m) d t1_0).trans (VT_pos m d)) (ix2 _ _)).trans
    ((cast_posX _ t _).trans ((posOut_at hr _ 0 t).trans (padded3_at _ 0 t ⟨(number m d).toNat, hr⟩)))
  posY t := (congrFun ((blk_1 (VT m) d t1_0).trans (VT_pos m d)) (ix2 _ _)).trans
    ((cast_posY _ t _).trans ((posOut_at hr _ 1 t).trans (padded3_at _ 1 t ⟨(number m d).toNat, hr⟩)))
  velX := (congrFun ((blk_2 (VT m) d t1_0).trans (VT_vel m d)) (ix2 _ _)).trans
    ((cast_velX _ _).trans ((velOut_at hr _ 0 1).trans (padded3_at _ 0 49 ⟨(number m d).toNat, hr⟩)))
  velY := (congrFun ((blk_2 (VT m) d t1_0).trans (VT_vel m d)) (ix2 _ _)).trans
    ((cast_velY _ _).trans ((velOut_at hr _ 1 1).trans (padded3_at _ 1 49 ⟨(number m d).toNat, hr⟩)))
  yaw := (congrFun ((blk_3 (VT m) d t1_0).trans (VT_head m d)) (ix2 _ _)).trans
    ((headOut_at hr _ 1).trans (padded2_at _ 49 ⟨(number m d).toNat, hr⟩))
  wEnc i k := congrFun ((blk_4 (VT m) d t1_0).trans (VT_arg m d main_arg6 (by decide) (by decide) (by decide))) (ix2 i k)
  wPos i k := congrFun ((blk_5 (VT m) d t1_0).trans (VT_arg m d main_arg7 (by decide) (by decide) (by decide))) (ix2 i k)
  wHead i k := congrFun ((blk_6 (VT m) d t1_0).trans (VT_arg m d main_arg8 (by decide) (by decide) (by decide))) (ix2 i k)

theorem actV_at (t : Fin 60) (c : Fin 3) : actV (VT m) d (ix2 t c) = (rows m d ⟨(number m d).toNat, hr⟩).input t c := by
  unfold actV
  rw [VT_table]
  exact (reads m d hr).act_at t c

/-! ## The network -/

/-- A hidden unit's share of a sum, from the half the window shows. -/
theorem unit_at (p : Fin grid1.N) (q : ℕ) (hp : p.val = q) (t : Fin 60) (k : Fin 2048) (j : Fin 2048) (hk : q * 2048 + k.val < 4096) :
    (max (actV (VT m) d (ix2 t 0) * (blk (VT m) d 7 p : Vec Ideal S3x2048 .f32) (ix2 0 k) + actV (VT m) d (ix2 t 1) * (blk (VT m) d 7 p : Vec Ideal S3x2048 .f32) (ix2 1 k)
        + actV (VT m) d (ix2 t 2) * (blk (VT m) d 7 p : Vec Ideal S3x2048 .f32) (ix2 2 k) + (blk (VT m) d 8 p : Vec Ideal S1x2048 .f32) (ix2 0 k)) 0
        * (blk (VT m) d 9 p : Vec Ideal S2048x2048 .f32) (ix2 k j) : EReal)
      = (rows m d ⟨(number m d).toNat, hr⟩).first t ⟨q * 2048 + k.val, hk⟩ * (rows m d ⟨(number m d).toNat, hr⟩).w2 ⟨q * 2048 + k.val, hk⟩ j := by
  subst hp
  have h7 : ∀ i : Fin 3, (blk (VT m) d 7 p : Vec Ideal S3x2048 .f32) (ix2 i k) = (rows m d ⟨(number m d).toNat, hr⟩).w1 i ⟨p.val * 2048 + k.val, hk⟩ := fun i =>
    (blk_7 (VT m) d p i k hk).trans (congrFun (VT_arg m d main_arg9 (by decide) (by decide) (by decide)) _)
  have h8 : (blk (VT m) d 8 p : Vec Ideal S1x2048 .f32) (ix2 0 k) = (rows m d ⟨(number m d).toNat, hr⟩).b1 ⟨p.val * 2048 + k.val, hk⟩ :=
    (blk_8 (VT m) d p 0 k hk).trans ((congrFun (VT_b1 m d) _).trans (cast_b1 _ _))
  have h9 : (blk (VT m) d 9 p : Vec Ideal S2048x2048 .f32) (ix2 k j) = (rows m d ⟨(number m d).toNat, hr⟩).w2 ⟨p.val * 2048 + k.val, hk⟩ j :=
    (blk_9 (VT m) d p k j hk).trans (congrFun (VT_arg m d main_arg11 (by decide) (by decide) (by decide)) _)
  rw [h7, h7, h7, h8, h9, actV_at m d hr, actV_at m d hr, actV_at m d hr]
  rfl

/-- The second layer's sum after both chunks. -/
theorem sum1_at (t : Fin 60) (j : Fin 2048) : sum1 (VT m) d (ix2 t j)
    = ∑ k : Fin 4096, (rows m d ⟨(number m d).toNat, hr⟩).first t k * (rows m d ⟨(number m d).toNat, hr⟩).w2 k j := by
  have hs := (Fin.sum_univ_add (fun k : Fin (2048 + 2048) => (rows m d ⟨(number m d).toNat, hr⟩).first t k * (rows m d ⟨(number m d).toNat, hr⟩).w2 k j)).symm
  refine Eq.trans ?_ hs
  unfold sum1
  rw [chunk_at]
  unfold sum0
  rw [chunk_at, zeros_at, zero_add]
  refine congrArg₂ (· + ·) (Finset.sum_congr rfl fun k _ => ?_) (Finset.sum_congr rfl fun k _ => ?_)
  · refine (unit_at m d hr t1_0 0 rfl t k j (by omega)).trans ?_
    have e : (⟨0 * 2048 + k.val, by omega⟩ : Fin 4096) = Fin.castAdd 2048 k := Fin.ext (by show 0 * 2048 + k.val = k.val; omega)
    rw [e]
  · refine (unit_at m d hr t1_1 1 rfl t k j (by omega)).trans ?_
    have e : (⟨1 * 2048 + k.val, by omega⟩ : Fin 4096) = Fin.natAdd 2048 k := Fin.ext (by show 1 * 2048 + k.val = 2048 + k.val; omega)
    rw [e]

/-- The last layer. -/
theorem third_at (t : Fin 60) (c : Fin 3) :
    k1_pay1 (sum1 (VT m) d) (blk (VT m) d 10 t1_1) (blk (VT m) d 11 t1_1) (blk (VT m) d 12 t1_1) (ix2 t c)
      = (rows m d ⟨(number m d).toNat, hr⟩).third t c := by
  have h10 : ∀ k : Fin 2048, (blk (VT m) d 10 t1_1 : Vec Ideal S1x2048 .f32) (ix2 0 k) = (rows m d ⟨(number m d).toNat, hr⟩).b2 k := fun k =>
    (congrFun ((blk_10 (VT m) d t1_1).trans (VT_b2 m d)) _).trans (cast_b2 _ k)
  have h11 : ∀ k : Fin 2048, (blk (VT m) d 11 t1_1 : Vec Ideal S2048x3 .f32) (ix2 k c) = (rows m d ⟨(number m d).toNat, hr⟩).w3 k c := fun k =>
    congrFun ((blk_11 (VT m) d t1_1).trans (VT_arg m d main_arg13 (by decide) (by decide) (by decide))) _
  have h12 : (blk (VT m) d 12 t1_1 : Vec Ideal S1x3 .f32) (ix2 0 c) = (rows m d ⟨(number m d).toNat, hr⟩).b3 c :=
    (congrFun ((blk_12 (VT m) d t1_1).trans (VT_b3 m d)) _).trans (cast_b3 _ c)
  rw [out_at, h12]
  simp only [h10, h11, sum1_at m d hr]
  rfl

theorem meanV_at (t : Fin 60) (c : Fin 3) : meanV (VT m) d (ix2 t c) = (rows m d ⟨(number m d).toNat, hr⟩).mean t c := by
  unfold meanV
  rw [mean_at, third_at m d hr]
  rfl

theorem spreadV_at (t : Fin 60) (c : Fin 3) : spreadV (VT m) d (ix2 t c) = (rows m d ⟨(number m d).toNat, hr⟩).spread t c := by
  unfold spreadV
  rw [spread_at, third_at m d hr]
  rfl

end
end Cert.Proof

end
-- ==== Proof.ReadRef.lean ====
/-
  The reference's values, read at the chosen agent: its positions and velocities with the planned ones put in, the
  encoder's output, the path, its first differences, the wrapped headings, the network's input and its last layer.
-/
module

public import proofs.«01_k».proof.Proof.Model
public import proofs.«01_k».proof.Proof.Gen.ReferenceIdeal.Run
public import Idealize.ShloMosaic.Lib.Pipeline.Value
public import Idealize.ShloMosaic.Lib.DynamicIndex
public import Idealize.ShloMosaic.Lib.Tactic.CleanTypes

@[expose] public section

noncomputable section

namespace Cert.Proof.Ref

open Cert.ReferenceIdeal Cert.ReferenceIdeal.Gen Cert.ReferenceIdeal.Value
open Idealize.ShloMosaic

/-! ## Where the agent's block starts -/

theorem start_at (n : Fin 10000) (i : IVec S_ 32) (hi : i = constantI S_ 32 (BitVec.ofNat 32 n.val)) (w : BitVec 32) (o : ℕ) (ho : w.toInt = o) :
    ∀ a : Fin 3, BitVec.toInt ((((![select (cmpi .slt i (constantI S_ 32 0#32)) (addi i (constantI S_ 32 10000#32)) i, constantI S_ 32 w, constantI S_ 32 0#32] : Fin 3 → IVec S_ 32)) a (Shape.Idx.first h_S_)))
      = ((![n.val, o, 0] : Fin 3 → ℕ) a : ℤ) := by
  intro a
  subst hi
  match a with
  | ⟨0, _⟩ => exact toInt_wrap_ofNat n.val (by omega)
  | ⟨1, _⟩ => exact ho
  | ⟨2, _⟩ => rfl

variable (V0 : Valuation τ sig (Elt Ideal))

/-! ## The parts of the network's input -/

set_option maxRecDepth 8192 in
/-- The velocities with the planned ones put in. -/
def refVel : FVec Ideal S10000x110x3 .f32 :=
  (Host.dynamicUpdateSlice (V0 (Proc.devRef .tc main_arg2)) (broadcastInDim S1x60x2 ![1, 2] bcast_S60x2_S1x60x2_1_2 (extractStridedSlice S60x2 ![0, 2] (V0 (Proc.devRef .tc main_arg0)) slices_S60x4_S60x2_0_2)) (fun k => (((![select (cmpi .slt (V0 (Proc.devRef .tc main_arg5)) (constantI S_ 32 0#32)) (addi (V0 (Proc.devRef .tc main_arg5)) (constantI S_ 32 10000#32)) (V0 (Proc.devRef .tc main_arg5)), constantI S_ 32 50#32, constantI S_ 32 0#32] : Fin 3 → (⟨S_, .i32⟩ : BufTy).Contents (Elt Ideal))) k (Shape.Idx.first h_S_)).toInt) updateFits_S10000x110x3_S1x60x2)

set_option maxRecDepth 8192 in
/-- The wrapped headings. -/
def refTurn : FVec Ideal S10000x60x1 .f32 :=
  (subf (select (andi (cmpi .ne (cmpf .olt (res_main_call0_v2 V0) (broadcastInDim S10000x60x1 ![] bcast_S_S10000x60x1 (constant S_ .f32 0x00000000#32))) (broadcastInDim S10000x60x1 ![] bcast_S_S10000x60x1 (cmpf .olt (res_main_call0_v0 V0) (constant S_ .f32 0x00000000#32)))) (cmpf .une (res_main_call0_v2 V0) (broadcastInDim S10000x60x1 ![] bcast_S_S10000x60x1 (constant S_ .f32 0x00000000#32)))) (addf (res_main_call0_v2 V0) (broadcastInDim S10000x60x1 ![] bcast_S_S10000x60x1 (res_main_call0_v0 V0))) (res_main_call0_v2 V0)) (broadcastInDim S10000x60x1 ![] bcast_S_S10000x60x1 (constant S_ .f32 0x40490FDB#32)))

set_option maxRecDepth 8192 in
/-- The accelerations. -/
def refAcc : FVec Ideal S10000x60x2 .f32 :=
  (concatenate S10000x60x2 1 [⟨S10000x1x2, (broadcastInDim S10000x1x2 ![0, 2] bcast_S10000x2_S10000x1x2_0_2 (subf (shapeCast _ (extractStridedSlice S10000x1x2 ![0, 0, 0] (res_main_v56 V0) slices_S10000x60x2_S10000x1x2_0_0_0) shapeCasts_S10000x1x2_S10000x2) (shapeCast _ (extractStridedSlice S10000x1x2 ![0, 49, 0] (refVel V0) slices_S10000x110x3_S10000x1x2_0_49_0) shapeCasts_S10000x1x2_S10000x2)))⟩, ⟨S10000x59x2, (Host.divf (subf (extractStridedSlice S10000x59x2 ![0, 1, 0] (res_main_v56 V0) slices_S10000x60x2_S10000x59x2_0_1_0) (extractStridedSlice S10000x59x2 ![0, 0, 0] (res_main_v56 V0) slices_S10000x60x2_S10000x59x2_0_0_0)) (broadcastInDim S10000x59x2 ![] bcast_S_S10000x59x2 (res_main_v0 V0)))⟩] concatenates_S10000x1x2_S10000x59x2_S10000x60x2_d1)

set_option maxRecDepth 8192 in
/-- The network's input. -/
def refInput : FVec Ideal S60x3 .f32 :=
  (shapeCast _ (Host.dynamicSlice S1x60x3 (concatenate S10000x60x3 2 [⟨S10000x60x1, (refTurn V0)⟩, ⟨S10000x60x2, (refAcc V0)⟩] concatenates_S10000x60x1_S10000x60x2_S10000x60x3_d2) (fun k => (((![select (cmpi .slt (V0 (Proc.devRef .tc main_arg5)) (constantI S_ 32 0#32)) (addi (V0 (Proc.devRef .tc main_arg5)) (constantI S_ 32 10000#32)) (V0 (Proc.devRef .tc main_arg5)), constantI S_ 32 0#32, constantI S_ 32 0#32] : Fin 3 → (⟨S_, .i32⟩ : BufTy).Contents (Elt Ideal))) k (Shape.Idx.first h_S_)).toInt) sliceFits_S10000x60x3_S1x60x3) shapeCasts_S1x60x3_S60x3)

set_option maxRecDepth 8192 in
theorem v97_eq : res_main_v97 V0 = addf (Host.dotGeneral (φ₂ := .f32) dot_S60x2048_S2048x3_S60x3_1_0_0_1_n_n none (addf (Host.dotGeneral (φ₂ := .f32) dot_S60x4096_S4096x2048_S60x2048_1_0_0_1_n_n none (maximumf (addf (Host.dotGeneral (φ₂ := .f32) dot_S60x3_S3x4096_S60x4096_1_0_0_1_n_n none (refInput V0) (V0 (Proc.devRef .tc main_arg9) : FVec Ideal S3x4096 .f32)) (broadcastInDim S60x4096 ![0, 1] bcast_S1x4096_S60x4096_0_1 (broadcastInDim S1x4096 ![1] bcast_S4096_S1x4096_1 (V0 (Proc.devRef .tc main_arg10) : FVec Ideal S4096 .f32)))) (broadcastInDim S60x4096 ![] bcast_S_S60x4096 (constant S_ .f32 0x00000000#32))) (V0 (Proc.devRef .tc main_arg11) : FVec Ideal S4096x2048 .f32)) (broadcastInDim S60x2048 ![0, 1] bcast_S1x2048_S60x2048_0_1 (broadcastInDim S1x2048 ![1] bcast_S2048_S1x2048_1 (V0 (Proc.devRef .tc main_arg12) : FVec Ideal S2048 .f32)))) (V0 (Proc.devRef .tc main_arg13) : FVec Ideal S2048x3 .f32)) (broadcastInDim S60x3 ![0, 1] bcast_S1x3_S60x3_0_1 (broadcastInDim S1x3 ![1] bcast_S3_S1x3_1 (V0 (Proc.devRef .tc main_arg14) : FVec Ideal S3 .f32))) := rfl

/-! ## The agent's row of each -/

variable (n : Fin 10000)

/-- The arguments as the model reads them. -/
def inputs : Inputs where
  plan t c := (V0 (Proc.devRef .tc main_arg0) : FVec Ideal S60x4 .f32) (ix2 t c)
  pos t c := (V0 (Proc.devRef .tc main_arg1) : FVec Ideal S10000x110x3 .f32) (ix3 n t c)
  vel t c := (V0 (Proc.devRef .tc main_arg2) : FVec Ideal S10000x110x3 .f32) (ix3 n t c)
  head t := (V0 (Proc.devRef .tc main_arg3) : FVec Ideal S10000x110 .f32) (ix2 n t)
  wEnc i k := (V0 (Proc.devRef .tc main_arg6) : FVec Ideal S220x512 .f32) (ix2 i k)
  wPos k j := (V0 (Proc.devRef .tc main_arg7) : FVec Ideal S512x720 .f32) (ix2 k j)
  wHead k j := (V0 (Proc.devRef .tc main_arg8) : FVec Ideal S512x360 .f32) (ix2 k j)
  w1 k j := (V0 (Proc.devRef .tc main_arg9) : FVec Ideal S3x4096 .f32) (ix2 k j)
  b1 j := (V0 (Proc.devRef .tc main_arg10) : FVec Ideal S4096 .f32) (ix1 j)
  w2 k j := (V0 (Proc.devRef .tc main_arg11) : FVec Ideal S4096x2048 .f32) (ix2 k j)
  b2 j := (V0 (Proc.devRef .tc main_arg12) : FVec Ideal S2048 .f32) (ix1 j)
  w3 k j := (V0 (Proc.devRef .tc main_arg13) : FVec Ideal S2048x3 .f32) (ix2 k j)
  b3 j := (V0 (Proc.devRef .tc main_arg14) : FVec Ideal S3 .f32) (ix1 j)

theorem fits (a : Fin 3) : ![n.val, 50, 0] a + S1x60x2.size a ≤ S10000x110x3.size a := by
  match a with
  | ⟨0, _⟩ => show n.val + 1 ≤ 10000; omega
  | ⟨1, _⟩ => show 50 + 60 ≤ 110; omega
  | ⟨2, _⟩ => show 0 + 2 ≤ 3; omega

/-- The agent's block put in. -/
theorem put_eq {α : Type} (x : S10000x110x3.Idx → α) (u : S1x60x2.Idx → α) (start : Fin 3 → ℤ) (h : S10000x110x3.Slices (fun _ => 0) S1x60x2)
    (hs : ∀ a : Fin 3, start a = ((![n.val, 50, 0] : Fin 3 → ℕ) a : ℤ)) :
    Host.dynamicUpdateSlice x u start h = updateSlice x u ![n.val, 50, 0] ⟨rfl, fits n⟩ :=
  Host.dynamicUpdateSlice_eq_updateSlice x u start h ![n.val, 50, 0] (fun a => by
    have hf := fits n a
    rw [hs a]
    show (min (max ((![n.val, 50, 0] a : ℕ) : ℤ) 0) ((S10000x110x3.size a - S1x60x2.size a : ℕ) : ℤ)).toNat = ![n.val, 50, 0] a
    omega) _

variable (hn : (V0 (Proc.devRef .tc main_arg5) : IVec S_ 32) = constantI S_ 32 (BitVec.ofNat 32 n.val))

section
include hn

theorem v6_at (t : Fin 110) (c : Fin 2) :
    (res_main_v6 V0 : FVec Ideal S10000x110x3 .f32) (ix3 n t ⟨c.val, by omega⟩) = (inputs V0 n).track t c := by
  have hs := start_at n _ hn 50#32 50 rfl
  unfold res_main_v6
  refine (congrFun (put_eq n _ _ _ _ hs) _).trans ?_
  clean_types
  pointwise
  unfold Inputs.track
  by_cases h : 50 ≤ t.val
  · rw [dif_pos ⟨⟨le_refl _, Nat.lt_succ_self _⟩, h⟩, dif_pos h]; rfl
  · rw [dif_neg (fun hc => h hc.2), dif_neg h]; rfl

theorem vel_at (c : Fin 3) : refVel V0 (ix3 n 49 c) = (inputs V0 n).vel 49 c := by
  have hs := start_at n _ hn 50#32 50 rfl
  unfold refVel
  refine (congrFun (put_eq n _ _ _ _ hs) _).trans ?_
  clean_types
  pointwise
  rw [dif_neg (fun hc => hc.2.1)]
  rfl

theorem code_at (k : Fin 512) : (res_main_v16 V0 : FVec Ideal S10000x512 .f32) (ix2 n k) = (inputs V0 n).code k := by
  unfold res_main_v16
  clean_types
  pointwise
  unfold Inputs.code
  refine congrArg _ (Finset.sum_congr rfl fun i _ => ?_)
  exact congrArg (· * _) (v6_at V0 n hn ⟨i.val / 2, by omega⟩ ⟨i.val % 2, by omega⟩)

end
end Cert.Proof.Ref

end
-- ==== Proof.ReadPath.lean ====
/-
  The reference's decoded path at the chosen agent, its first differences and its wrapped headings.
-/
module

public import proofs.«01_k».proof.Proof.ReadRef

@[expose] public section

noncomputable section

namespace Cert.Proof.Ref

open Cert.ReferenceIdeal Cert.ReferenceIdeal.Gen Cert.ReferenceIdeal.Value
open Idealize.ShloMosaic

variable (V0 : Valuation τ sig (Elt Ideal)) (n : Fin 10000)
variable (hn : (V0 (Proc.devRef .tc main_arg5) : IVec S_ 32) = constantI S_ 32 (BitVec.ofNat 32 n.val))

theorem v24_at : (res_main_v24 V0 : FVec Ideal S10000 .f32) (ix1 n) = (inputs V0 n).yaw := by
  unfold res_main_v24
  clean_types
  pointwise
  rfl

theorem v25_at : (res_main_v25 V0 : FVec Ideal S10000 .f32) (ix1 n) = Ideal.cos (inputs V0 n).yaw := by
  rw [← v24_at V0 n]; unfold res_main_v25; clean_types; pointwise

theorem v26_at : (res_main_v26 V0 : FVec Ideal S10000 .f32) (ix1 n) = Ideal.sin (inputs V0 n).yaw := by
  rw [← v24_at V0 n]; unfold res_main_v26; clean_types; pointwise

theorem v0_at : (res_main_v0 V0 : FVec Ideal S_ .f32) ix0 = Ideal.div (Ideal.ofBits .f32 0x3F800000#32) (Ideal.ofBits .f32 0x41200000#32) := rfl

/-- The angle the headings are reduced by. -/
theorem turnAngle : (res_main_call0_v0 V0 : FVec Ideal S_ .f32) ix0 = Ideal.ofBits .f32 0x40C90FDB#32 := rfl

/-- A quotient by the time step, at neighbouring times. -/
theorem diff_eq (f : Fin 60 → EReal) (o : EReal) (t : Fin 60) :
    (if h : t.val < 1 then f 0 - o
      else Ideal.div (f ⟨1 + (t.val - 1), by omega⟩ - f ⟨t.val - 1, by omega⟩) ((res_main_v0 V0 : FVec Ideal S_ .f32) ix0))
      = Inputs.diff f o t := by
  unfold Inputs.diff
  by_cases h : t.val < 1
  · rw [dif_pos h, if_pos h]
    have : t = 0 := Fin.ext (by omega)
    rw [this]
  · rw [dif_neg h, if_neg h, v0_at, div_tenth]
    have : (⟨1 + (t.val - 1), by omega⟩ : Fin 60) = t := Fin.ext (by show 1 + (t.val - 1) = t.val; omega)
    rw [this]

/-- Two bits differ when their exclusive or is one. -/
theorem ne_eq_xor (a b : Bool) : IntOp.cmpi .ne (BitVec.ofBool a) (BitVec.ofBool b) = IntOp.xori (BitVec.ofBool a) (BitVec.ofBool b) := by
  cases a <;> cases b <;> decide

section
include hn

/-- The agent's last observed position. -/
theorem pos_at (c : Fin 2) :
    (res_main_v6 V0 : FVec Ideal S10000x110x3 .f32) (ix3 n 49 ⟨c.val, by omega⟩) = (inputs V0 n).pos 49 ⟨c.val, by omega⟩ :=
  (v6_at V0 n hn 49 c).trans (dif_neg (by decide))

theorem pos_x : (res_main_v6 V0 : FVec Ideal S10000x110x3 .f32) (ix3 n 49 0) = (inputs V0 n).pos 49 0 := pos_at V0 n hn 0
theorem pos_y : (res_main_v6 V0 : FVec Ideal S10000x110x3 .f32) (ix3 n 49 1) = (inputs V0 n).pos 49 1 := pos_at V0 n hn 1

theorem v44_x (t : Fin 60) : (res_main_v44 V0 : FVec Ideal S10000x60x2 .f32) (ix3 n t 0) = (inputs V0 n).pathX t := by
  unfold res_main_v44
  clean_types
  pointwise
  rw [Fin.sum_univ_one, Fin.sum_univ_one]
  simp only [code_at V0 n hn, v25_at, v26_at]
  rw [pos_x V0 n hn]
  show (inputs V0 n).ahead t * Ideal.cos (inputs V0 n).yaw + (inputs V0 n).aside t * -Ideal.sin (inputs V0 n).yaw + (inputs V0 n).pos 49 0 = _
  rw [mul_neg, ← sub_eq_add_neg]
  rfl

theorem v44_y (t : Fin 60) : (res_main_v44 V0 : FVec Ideal S10000x60x2 .f32) (ix3 n t 1) = (inputs V0 n).pathY t := by
  unfold res_main_v44
  clean_types
  pointwise
  rw [Fin.sum_univ_one, Fin.sum_univ_one]
  simp only [code_at V0 n hn, v25_at, v26_at]
  rw [pos_y V0 n hn]
  rfl

theorem v56_x (t : Fin 60) : (res_main_v56 V0 : FVec Ideal S10000x60x2 .f32) (ix3 n t 0) = Inputs.diff (inputs V0 n).pathX ((inputs V0 n).pos 49 0) t := by
  rw [← diff_eq V0]
  unfold res_main_v56
  clean_types
  pointwise
  simp only [v44_x V0 n hn, pos_x V0 n hn]

theorem v56_y (t : Fin 60) : (res_main_v56 V0 : FVec Ideal S10000x60x2 .f32) (ix3 n t 1) = Inputs.diff (inputs V0 n).pathY ((inputs V0 n).pos 49 1) t := by
  rw [← diff_eq V0]
  unfold res_main_v56
  clean_types
  pointwise
  simp only [v44_y V0 n hn, pos_y V0 n hn]

theorem acc_x (t : Fin 60) : refAcc V0 (ix3 n t 0) = (inputs V0 n).accX t := by
  unfold Inputs.accX
  rw [← diff_eq V0]
  unfold refAcc
  clean_types
  pointwise
  simp only [v56_x V0 n hn, vel_at V0 n hn]

theorem acc_y (t : Fin 60) : refAcc V0 (ix3 n t 1) = (inputs V0 n).accY t := by
  unfold Inputs.accY
  rw [← diff_eq V0]
  unfold refAcc
  clean_types
  pointwise
  simp only [v56_y V0 n hn, vel_at V0 n hn]

theorem angle_at (t : Fin 60) : (res_main_call0_v2 V0 : FVec Ideal S10000x60x1 .f32) (ix3 n t 0)
    = Ideal.remf (∑ k : Fin 512, (inputs V0 n).code k * (inputs V0 n).wHead k ⟨t.val, by omega⟩ + (inputs V0 n).yaw + Ideal.ofBits .f32 0x40490FDB#32)
        (Ideal.ofBits .f32 0x40C90FDB#32) := by
  unfold res_main_call0_v2
  clean_types
  pointwise
  simp only [code_at V0 n hn, v24_at, turnAngle]
  rfl

theorem turn_at (t : Fin 60) : refTurn V0 (ix3 n t 0) = (inputs V0 n).turn t := by
  unfold refTurn
  clean_types
  pointwise
  rw [ne_eq_xor]
  rw [angle_at V0 n hn, turnAngle]
  rfl

end
end Cert.Proof.Ref

end
-- ==== Proof.ReadOut.lean ====
/-
  The reference's two results at the chosen agent: the network over its input.
-/
module

public import proofs.«01_k».proof.Proof.ReadPath

@[expose] public section

noncomputable section

namespace Cert.Proof.Ref

open Cert.ReferenceIdeal Cert.ReferenceIdeal.Gen Cert.ReferenceIdeal.Value
open Idealize.ShloMosaic

variable (V0 : Valuation τ sig (Elt Ideal)) (n : Fin 10000)
variable (hn : (V0 (Proc.devRef .tc main_arg5) : IVec S_ 32) = constantI S_ 32 (BitVec.ofNat 32 n.val))

theorem fitsRow (a : Fin 3) : ![n.val, 0, 0] a + S1x60x3.size a ≤ S10000x60x3.size a := by
  match a with
  | ⟨0, _⟩ => show n.val + 1 ≤ 10000; omega
  | ⟨1, _⟩ => show 0 + 60 ≤ 60; omega
  | ⟨2, _⟩ => show 0 + 3 ≤ 3; omega

/-- The agent's row taken out. -/
theorem take_eq {α : Type} (x : S10000x60x3.Idx → α) (start : Fin 3 → ℤ) (h : S10000x60x3.Slices (fun _ => 0) S1x60x3)
    (hs : ∀ a : Fin 3, start a = ((![n.val, 0, 0] : Fin 3 → ℕ) a : ℤ)) :
    Host.dynamicSlice S1x60x3 x start h = extractStridedSlice S1x60x3 ![n.val, 0, 0] x ⟨rfl, fitsRow n⟩ :=
  Host.dynamicSlice_eq_extractStridedSlice S1x60x3 x start ![n.val, 0, 0] h ⟨rfl, fitsRow n⟩ hs

section
include hn

theorem input_at (t : Fin 60) (c : Fin 3) : refInput V0 (ix2 t c) = (inputs V0 n).input t c := by
  have hs := start_at n _ hn 0#32 0 rfl
  unfold refInput
  rw [take_eq n _ _ _ hs]
  clean_types
  pointwise
  unfold Inputs.input
  match c with
  | ⟨0, _⟩ => exact turn_at V0 n hn t
  | ⟨1, _⟩ => exact acc_x V0 n hn t
  | ⟨2, _⟩ => exact acc_y V0 n hn t

theorem third_at (t : Fin 60) (c : Fin 3) : (res_main_v97 V0 : FVec Ideal S60x3 .f32) (ix2 t c) = (inputs V0 n).third t c := by
  rw [v97_eq]
  clean_types
  pointwise
  simp only [Fin.sum_univ_three, input_at V0 n hn]
  rfl

theorem mean_at (t : Fin 60) (c : Fin 3) :
    (Host.tanh (res_main_v97 V0 : FVec Ideal S60x3 .f32) : FVec Ideal S60x3 .f32) (ix2 t c) = (inputs V0 n).mean t c :=
  congrArg Ideal.tanh (third_at V0 n hn t c)

theorem spread_at (t : Fin 60) (c : Fin 3) :
    (addf (select (cmpf .une (res_main_call2_v3 V0) (res_main_call2_v3 V0)) (addf (res_main_v97 V0) (broadcastInDim S60x3 ![] bcast_S_S60x3 (res_main_call2_cst V0))) (addf (maximumf (res_main_v97 V0) (broadcastInDim S60x3 ![] bcast_S_S60x3 (res_main_call2_cst V0))) (Host.log1p (Host.exp (Host.negf (Host.absf (res_main_call2_v3 V0))))))) (broadcastInDim S60x3 ![] bcast_S_S60x3 (constant S_ .f32 0x322BCC77#32)) : FVec Ideal S60x3 .f32) (ix2 t c)
      = (inputs V0 n).spread t c := by
  have h3 : (res_main_call2_v3 V0 : FVec Ideal S60x3 .f32) (ix2 t c) = (inputs V0 n).third t c := by
    unfold res_main_call2_v3 res_main_call2_cst
    clean_types
    pointwise
    rw [third_at V0 n hn]
  unfold Inputs.spread
  unfold res_main_call2_cst
  clean_types
  pointwise
  rw [h3, third_at V0 n hn]
  rw [if_neg (fun h => h rfl), add_comm (max _ _), zero_sub]
  rfl

end
end Cert.Proof.Ref

end
-- ==== Proof.Algebraic.lean ====
/-
  The kernel computes the reference over the extended reals: at every point of either result both are the model's value
  for the agent.
-/
module

public import proofs.«01_k».proof.Proof.ReadKernel
public import proofs.«01_k».proof.Proof.ReadOut

@[expose] public section

noncomputable section

namespace Cert.Proof

open Idealize.ShloMosaic Idealize.ShloMosaic.StableHlo Idealize.SL.Sem

theorem inputs_ext {a b : Inputs} (h0 : a.plan = b.plan) (h1 : a.pos = b.pos) (h2 : a.vel = b.vel) (h3 : a.head = b.head)
    (h4 : a.wEnc = b.wEnc) (h5 : a.wPos = b.wPos) (h6 : a.wHead = b.wHead) (h7 : a.w1 = b.w1) (h8 : a.b1 = b.b1)
    (h9 : a.w2 = b.w2) (h10 : a.b2 = b.b2) (h11 : a.w3 = b.w3) (h12 : a.b3 = b.b3) : a = b := by
  cases a; cases b; subst h0 h1 h2 h3 h4 h5 h6 h7 h8 h9 h10 h11 h12; rfl

/-- Two programs with the same arguments have the same inputs. -/
theorem same_inputs (m : (ℓ : Loc KernelIdeal.nD KernelIdeal.τ KernelIdeal.sig) → Buf (Elt Ideal) ℓ)
    (V0 : Valuation ReferenceIdeal.τ ReferenceIdeal.sig (Elt Ideal)) (c : Dev KernelIdeal.nD) (n : Fin 10000)
    (h0 : (V0 (Proc.devRef .tc ReferenceIdeal.main_arg0) : FVec Ideal ReferenceIdeal.S60x4 .f32) = (m ((c.tc : Thread KernelIdeal.nD KernelIdeal.τ).loc KernelIdeal.main_arg0) : FVec Ideal KernelIdeal.S60x4 .f32))
    (h1 : (V0 (Proc.devRef .tc ReferenceIdeal.main_arg1) : FVec Ideal ReferenceIdeal.S10000x110x3 .f32) = (m ((c.tc : Thread KernelIdeal.nD KernelIdeal.τ).loc KernelIdeal.main_arg1) : FVec Ideal KernelIdeal.S10000x110x3 .f32))
    (h2 : (V0 (Proc.devRef .tc ReferenceIdeal.main_arg2) : FVec Ideal ReferenceIdeal.S10000x110x3 .f32) = (m ((c.tc : Thread KernelIdeal.nD KernelIdeal.τ).loc KernelIdeal.main_arg2) : FVec Ideal KernelIdeal.S10000x110x3 .f32))
    (h3 : (V0 (Proc.devRef .tc ReferenceIdeal.main_arg3) : FVec Ideal ReferenceIdeal.S10000x110 .f32) = (m ((c.tc : Thread KernelIdeal.nD KernelIdeal.τ).loc KernelIdeal.main_arg3) : FVec Ideal KernelIdeal.S10000x110 .f32))
    (h6 : (V0 (Proc.devRef .tc ReferenceIdeal.main_arg6) : FVec Ideal ReferenceIdeal.S220x512 .f32) = (m ((c.tc : Thread KernelIdeal.nD KernelIdeal.τ).loc KernelIdeal.main_arg6) : FVec Ideal KernelIdeal.S220x512 .f32))
    (h7 : (V0 (Proc.devRef .tc ReferenceIdeal.main_arg7) : FVec Ideal ReferenceIdeal.S512x720 .f32) = (m ((c.tc : Thread KernelIdeal.nD KernelIdeal.τ).loc KernelIdeal.main_arg7) : FVec Ideal KernelIdeal.S512x720 .f32))
    (h8 : (V0 (Proc.devRef .tc ReferenceIdeal.main_arg8) : FVec Ideal ReferenceIdeal.S512x360 .f32) = (m ((c.tc : Thread KernelIdeal.nD KernelIdeal.τ).loc KernelIdeal.main_arg8) : FVec Ideal KernelIdeal.S512x360 .f32))
    (h9 : (V0 (Proc.devRef .tc ReferenceIdeal.main_arg9) : FVec Ideal ReferenceIdeal.S3x4096 .f32) = (m ((c.tc : Thread KernelIdeal.nD KernelIdeal.τ).loc KernelIdeal.main_arg9) : FVec Ideal KernelIdeal.S3x4096 .f32))
    (h10 : (V0 (Proc.devRef .tc ReferenceIdeal.main_arg10) : FVec Ideal ReferenceIdeal.S4096 .f32) = (m ((c.tc : Thread KernelIdeal.nD KernelIdeal.τ).loc KernelIdeal.main_arg10) : FVec Ideal KernelIdeal.S4096 .f32))
    (h11 : (V0 (Proc.devRef .tc ReferenceIdeal.main_arg11) : FVec Ideal ReferenceIdeal.S4096x2048 .f32) = (m ((c.tc : Thread KernelIdeal.nD KernelIdeal.τ).loc KernelIdeal.main_arg11) : FVec Ideal KernelIdeal.S4096x2048 .f32))
    (h12 : (V0 (Proc.devRef .tc ReferenceIdeal.main_arg12) : FVec Ideal ReferenceIdeal.S2048 .f32) = (m ((c.tc : Thread KernelIdeal.nD KernelIdeal.τ).loc KernelIdeal.main_arg12) : FVec Ideal KernelIdeal.S2048 .f32))
    (h13 : (V0 (Proc.devRef .tc ReferenceIdeal.main_arg13) : FVec Ideal ReferenceIdeal.S2048x3 .f32) = (m ((c.tc : Thread KernelIdeal.nD KernelIdeal.τ).loc KernelIdeal.main_arg13) : FVec Ideal KernelIdeal.S2048x3 .f32))
    (h14 : (V0 (Proc.devRef .tc ReferenceIdeal.main_arg14) : FVec Ideal ReferenceIdeal.S3 .f32) = (m ((c.tc : Thread KernelIdeal.nD KernelIdeal.τ).loc KernelIdeal.main_arg14) : FVec Ideal KernelIdeal.S3 .f32)) :
    Ref.inputs V0 n = rows m c n :=
  inputs_ext (funext fun t => funext fun c => congrFun h0 (ix2 t c)) (funext fun t => funext fun c => congrFun h1 (ix3 n t c)) (funext fun t => funext fun c => congrFun h2 (ix3 n t c)) (funext fun t => congrFun h3 (ix2 n t)) (funext fun k => funext fun j => congrFun h6 (ix2 k j)) (funext fun k => funext fun j => congrFun h7 (ix2 k j)) (funext fun k => funext fun j => congrFun h8 (ix2 k j)) (funext fun k => funext fun j => congrFun h9 (ix2 k j)) (funext fun j => congrFun h10 (ix1 j)) (funext fun k => funext fun j => congrFun h11 (ix2 k j)) (funext fun j => congrFun h12 (ix1 j)) (funext fun k => funext fun j => congrFun h13 (ix2 k j)) (funext fun j => congrFun h14 (ix1 j))

/-- The agent's number, in the reference's arguments. -/
theorem same_number (m : (ℓ : Loc KernelIdeal.nD KernelIdeal.τ KernelIdeal.sig) → Buf (Elt Ideal) ℓ)
    (V0 : Valuation ReferenceIdeal.τ ReferenceIdeal.sig (Elt Ideal)) (c : Dev KernelIdeal.nD)
    (h5 : (V0 (Proc.devRef .tc ReferenceIdeal.main_arg5) : IVec ReferenceIdeal.S_ 32) = (m ((c.tc : Thread KernelIdeal.nD KernelIdeal.τ).loc KernelIdeal.main_arg5) : IVec KernelIdeal.S_ 32)) :
    (V0 (Proc.devRef .tc ReferenceIdeal.main_arg5) : IVec ReferenceIdeal.S_ 32) = constantI ReferenceIdeal.S_ 32 (BitVec.ofNat 32 (number m c).toNat) := by
  rw [h5]
  funext i
  refine (congrArg (m ((c.tc : Thread KernelIdeal.nD KernelIdeal.τ).loc KernelIdeal.main_arg5) : IVec KernelIdeal.S_ 32) (ValueIdx.eq_ix0 i)).trans ?_
  show number m c = BitVec.ofNat 32 (number m c).toNat
  rw [BitVec.ofNat_toNat, BitVec.setWidth_eq]

/-- Two arrays of sixty by three that agree at every point. -/
theorem ext60 {a b : FVec Ideal KernelIdeal.S60x3 .f32} (h : ∀ (t : Fin 60) (j : Fin 3), a (ix2 t j) = b (ix2 t j)) : a = b := by
  funext i
  rw [ValueIdx.eq_ix2 i]
  exact h (i 0) (i 1)

/-- A result's array is one of the program's. -/
theorem results_plain : ∀ r ∈ [KernelIdeal.main_v14_0, KernelIdeal.main_v14_1], ¬ (Proc.devRef (τ := KernelIdeal.τ) .tc r).isScoped = true := by decide

theorem algebraic : Cert.algebraic_KernelIdeal_ReferenceIdeal := by
  intro m g m' g' hp hs
  have hr := in_range_ideal m hp
  refine ⟨fun c => meanV (VT m) c, fun c => spreadV (VT m) c, ?_, ?_⟩
  · refine (θ_run KernelIdeal.defs _ _).mono (fun r h c => ?_) (run_main m g fun d => by rw [VA_agent]; exact hr d)
    have k := arg_end m r.2.mem h.1 c
    refine ⟨?_, ?_, k KernelIdeal.main_arg0 (by decide), k KernelIdeal.main_arg1 (by decide), k KernelIdeal.main_arg2 (by decide), k KernelIdeal.main_arg3 (by decide), k KernelIdeal.main_arg4 (by decide), k KernelIdeal.main_arg5 (by decide), k KernelIdeal.main_arg6 (by decide), k KernelIdeal.main_arg7 (by decide), k KernelIdeal.main_arg8 (by decide), k KernelIdeal.main_arg9 (by decide), k KernelIdeal.main_arg10 (by decide), k KernelIdeal.main_arg11 (by decide), k KernelIdeal.main_arg12 (by decide), k KernelIdeal.main_arg13 (by decide), k KernelIdeal.main_arg14 (by decide)⟩
    · exact (h.1 c _ (Finset.mem_filter.mpr ⟨devRef_mem_tcRefs KernelIdeal.main_v14_0, results_plain _ (by decide)⟩)).trans (VE_mean m c)
    · exact (h.1 c _ (Finset.mem_filter.mpr ⟨devRef_mem_tcRefs KernelIdeal.main_v14_1, results_plain _ (by decide)⟩)).trans (VE_spread m c)
  · refine (θ_run ReferenceIdeal.defs _ _).mono (fun r h c => ?_) (ReferenceIdeal.Value.run m' g')
    obtain ⟨e0, e1, e2, e3, e4, e5, e6, e7, e8, e9, e10, e11, e12, e13, e14⟩ := hs c
    have hi := same_inputs m (launchContents m' c) c ⟨(number m c).toNat, hr c⟩ e0 e1 e2 e3 e6 e7 e8 e9 e10 e11 e12 e13 e14
    have hn := same_number m (launchContents m' c) c e5
    refine ⟨(h c).1.trans (ext60 fun t j => ?_), (h c).2.1.trans (ext60 fun t j => ?_), (h c).2.2⟩
    · refine (Ref.mean_at (launchContents m' c) ⟨(number m c).toNat, hr c⟩ hn t j).trans ?_
      rw [hi]
      exact (meanV_at m c (hr c) t j).symm
    · refine (Ref.spread_at (launchContents m' c) ⟨(number m c).toNat, hr c⟩ hn t j).trans ?_
      rw [hi]
      exact (spreadV_at m c (hr c) t j).symm

end Cert.Proof

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.FrameKernel
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, preFacts,
    frame_kernel, frame_ideal, frame_reference, frame_reference_pre, trivial, algebraic⟩

end Cert.Proof

end
